-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_decays_below_inf [hPre_decays_below_inf : Cert.Pre_decays_below_inf.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_decays_below_inf.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_decays_below_inf [hPre_decays_below_inf : Cert.Pre_decays_below_inf.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_decays_below_inf.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_decays_below_inf [hKernel5Ideal : Cert.Kernel5Ideal.Facts] [hPre_decays_below_inf : Cert.Pre_decays_below_inf.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_decays_below_inf m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_decays_below_inf [hReference5Ideal : Cert.Reference5Ideal.Facts] [hPre_decays_below_inf : Cert.Pre_decays_below_inf.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_decays_below_inf m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)) (v4 : (c : Dev Cert.Kernel2Ideal.nD) → Buf (Elt Ideal) ((c.tc : Thread Cert.Kernel2Ideal.nD Cert.Kernel2Ideal.τ).loc Cert.Kernel2Ideal.main_v13_4)) (v5 : (c : Dev Cert.Kernel2Ideal.nD) → Buf (Elt Ideal) ((c.tc : Thread Cert.Kernel2Ideal.nD Cert.Kernel2Ideal.τ).loc Cert.Kernel2Ideal.main_v13_5)) (v6 : (c : Dev Cert.Kernel2Ideal.nD) → Buf (Elt Ideal) ((c.tc : Thread Cert.Kernel2Ideal.nD Cert.Kernel2Ideal.τ).loc Cert.Kernel2Ideal.main_v13_6)) (v7 : (c : Dev Cert.Kernel2Ideal.nD) → Buf (Elt Ideal) ((c.tc : Thread Cert.Kernel2Ideal.nD Cert.Kernel2Ideal.τ).loc Cert.Kernel2Ideal.main_v13_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_v13_4) = v4 c
          ∧ r.2.mem ((c.tc : Thread Cert.Kernel2Ideal.nD Cert.Kernel2Ideal.τ).loc Cert.Kernel2Ideal.main_v13_5) = v5 c
          ∧ r.2.mem ((c.tc : Thread Cert.Kernel2Ideal.nD Cert.Kernel2Ideal.τ).loc Cert.Kernel2Ideal.main_v13_6) = v6 c
          ∧ r.2.mem ((c.tc : Thread Cert.Kernel2Ideal.nD Cert.Kernel2Ideal.τ).loc Cert.Kernel2Ideal.main_v13_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v16) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v29) = v5 c
          ∧ r.2.mem ((c.tc : Thread Cert.Reference2Ideal.nD Cert.Reference2Ideal.τ).loc Cert.Reference2Ideal.main_v30) = v6 c
          ∧ r.2.mem ((c.tc : Thread Cert.Reference2Ideal.nD Cert.Reference2Ideal.τ).loc Cert.Reference2Ideal.main_v31) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_decays_below_inf [hKernel5Ideal : Cert.Kernel5Ideal.Facts] [hReference5Ideal : Cert.Reference5Ideal.Facts] [hPre_decays_below_inf : Cert.Pre_decays_below_inf.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_decays_below_inf m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v67) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_decays_below_inf : Cert.Pre_decays_below_inf.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_decays_below_inf (hKernel5Ideal := hKernel5Ideal) (hPre_decays_below_inf := hPre_decays_below_inf)
    ∧ quiescent_Reference5Ideal (hReference5Ideal := hReference5Ideal)
    ∧ quiescent_Reference5Ideal_pre_decays_below_inf (hReference5Ideal := hReference5Ideal) (hPre_decays_below_inf := hPre_decays_below_inf)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_decays_below_inf (hKernel5Ideal := hKernel5Ideal) (hReference5Ideal := hReference5Ideal) (hPre_decays_below_inf := hPre_decays_below_inf)
    ∧ preserves_Kernel6_Kernel6Ideal
    ∧ algebraic_Kernel6Ideal_Reference6Ideal (hKernel6Ideal := hKernel6Ideal) (hReference6Ideal := hReference6Ideal)
-- ==== Pre_decays_below_inf.lean ====
abbrev S8x4096x256 : Shape := ⟨3, ![8, 4096, 256]⟩
abbrev S8x4096x512 : Shape := ⟨3, ![8, 4096, 512]⟩
abbrev S128 : Shape := ⟨1, ![128]⟩
abbrev S_ : Shape := ⟨0, ![]⟩

class Facts : Prop where
  bcast_S_S8x4096x256 : S_.BroadcastsInDim S8x4096x256 (![] : Fin 0 → Fin S8x4096x256.rank)

variable [Facts]

def fn {F : FTy → Type} [FloatOps F] (main_arg0 : FVec F S8x4096x256 .f32) (main_arg1 : FVec F S8x4096x256 .f32) (main_arg2 : FVec F S8x4096x256 .f32) (main_arg3 : FVec F S8x4096x512 .f32) (main_arg4 : FVec F S8x4096x512 .f32) (main_arg5 : FVec F S128 .f32) : IVec S8x4096x256 1 :=
  let main_cst : FVec F S_ .f32 := constant S_ .f32 0x7F800000#32
  let main_v0 : FVec F S8x4096x256 .f32 := broadcastInDim S8x4096x256 ![] bcast_S_S8x4096x256 main_cst
  let main_v1 : IVec S8x4096x256 1 := cmpf .olt main_arg2 main_v0
  main_v1
-- ==== Pre_finite_scores.lean ====
abbrev S8x4096x512 : Shape := ⟨3, ![8, 4096, 512]⟩
abbrev S8x257 : Shape := ⟨2, ![8, 257]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  bcast_S_S8x257 : S_.BroadcastsInDim S8x257 (![] : Fin 0 → Fin S8x257.rank)

variable [Facts]

def fn {F : FTy → Type} [FloatOps F] (main_arg0 : FVec F S8x4096x512 .bf16) (main_arg1 : FVec F S8x4096x512 .bf16) (main_arg2 : FVec F S8x4096x512 .bf16) (main_arg3 : FVec F S8x257 .f32) : IVec S8x4096x512 1 × IVec S8x4096x512 1 × IVec S8x257 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S8x4096x512 .f32 := (extf .f32 · bitsLt_bf16_f32) main_arg1
  let main_v5 : FVec F S8x4096x512 .f32 := Host.absf main_v4
  let main_cst_0 : FVec F S_ .f32 := constant S_ .f32 0x7F800000#32
  let main_v6 : FVec F S8x4096x512 .f32 := broadcastInDim S8x4096x512 ![] bcast_S_S8x4096x512 main_cst_0
  let main_v7 : IVec S8x4096x512 1 := cmpf .olt main_v5 main_v6
  let main_v8 : FVec F S8x257 .f32 := Host.absf main_arg3
  let main_cst_1 : FVec F S_ .f32 := constant S_ .f32 0x7F800000#32
  let main_v9 : FVec F S8x257 .f32 := broadcastInDim S8x257 ![] bcast_S_S8x257 main_cst_1
  let main_v10 : IVec S8x257 1 := cmpf .olt main_v8 main_v9
  (main_v3, main_v7, main_v10)
-- ==== Kernel.lean ====
abbrev S8x4096x512 : Shape := ⟨3, ![8, 4096, 512]⟩
abbrev S8x257 : Shape := ⟨2, ![8, 257]⟩
abbrev S_ : Shape := ⟨0, ![]⟩
abbrev S8x4608x512 : Shape := ⟨3, ![8, 4608, 512]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x64x512 : Shape := ⟨3, ![1, 64, 512]⟩
abbrev S1x4608x512 : Shape := ⟨3, ![1, 4608, 512]⟩
abbrev S64x512 : Shape := ⟨2, ![64, 512]⟩
abbrev S1x576x512 : Shape := ⟨3, ![1, 576, 512]⟩
abbrev S576x512 : Shape := ⟨2, ![576, 512]⟩
abbrev S64x128 : Shape := ⟨2, ![64, 128]⟩
abbrev S576x128 : Shape := ⟨2, ![576, 128]⟩
abbrev S1x64x576 : Shape := ⟨3, ![1, 64, 576]⟩

abbrev nBuf : Space → Nat
  | .hbm => 41
  | .vmem => 9
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x257, .f32⟩
  | .hbm, ⟨4, _⟩ => ⟨S_, .i32⟩
  | .hbm, ⟨5, _⟩ => ⟨S_, .bf16⟩
  | .hbm, ⟨6, _⟩ => ⟨S8x4608x512, .bf16⟩
  | .hbm, ⟨7, _⟩ => ⟨S_, .i32⟩
  | .hbm, ⟨8, _⟩ => ⟨S_, .bf16⟩
  | .hbm, ⟨9, _⟩ => ⟨S8x4608x512, .bf16⟩
  | .hbm, ⟨10, _⟩ => ⟨S64, .i32⟩
  | .hbm, ⟨11, _⟩ => ⟨S64x1, .i32⟩
  | .hbm, ⟨12, _⟩ => ⟨S_, .i32⟩
  | .hbm, ⟨13, _⟩ => ⟨S64x1, .i32⟩
  | .hbm, ⟨14, _⟩ => ⟨S64x1, .i32⟩
  | .hbm, ⟨15, _⟩ => ⟨S576, .i32⟩
  | .hbm, ⟨16, _⟩ => ⟨S1x576, .i32⟩
  | .hbm, ⟨17, _⟩ => ⟨S64x576, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i1⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S64x576, .i32⟩
  | .hbm, ⟨38, _⟩ => ⟨S64x576x1, .i32⟩
  | .hbm, ⟨39, _⟩ => ⟨S8x64x576, .f32⟩
  | .hbm, ⟨40, _⟩ => ⟨S8x4096x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x4608x512, .bf16⟩
  | .local _ .vmem, ⟨3, _⟩ => ⟨S1x4608x512, .bf16⟩
  | .local _ .vmem, ⟨4, _⟩ => ⟨S1x4608x512, .bf16⟩
  | .local _ .vmem, ⟨5, _⟩ => ⟨S1x4608x512, .bf16⟩
  | .local _ .vmem, ⟨6, _⟩ => ⟨S8x64x576, .f32⟩
  | .local _ .vmem, ⟨7, _⟩ => ⟨S1x64x512, .bf16⟩
  | .local _ .vmem, ⟨8, _⟩ => ⟨S1x64x512, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_c_3 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 64], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 3 → Nat :=
  let c0_2 : Index := 0#32
  let arg1 : BitVec 32 := BitVec.ofNat 32 (i 1).val
  let c64_i32 : BitVec 32 := 64#32
  let v0 : BitVec 32 := Scalar.muli arg1 c64_i32
  let v1 : BitVec 32 := v0
  let v4 : Index := Scalar.indexCast v1
  let c0_3 : Index := 0#32
  ![0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4608x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4608x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x64x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x4096x512 : Shape := ⟨3, ![8, 4096, 512]⟩
abbrev S8x257 : Shape := ⟨2, ![8, 257]⟩
abbrev S8x4096x8x64 : Shape := ⟨4, ![8, 4096, 8, 64]⟩
abbrev S8x8x4096x64 : Shape := ⟨4, ![8, 8, 4096, 64]⟩
abbrev S_ : Shape := ⟨0, ![]⟩
abbrev S8x8x4608x64 : Shape := ⟨4, ![8, 8, 4608, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S64x4 : Shape := ⟨2, ![64, 4]⟩
abbrev S64x8x8x64x64 : Shape := ⟨5, ![64, 8, 8, 64, 64]⟩
abbrev S64x8x8x576x64 : Shape := ⟨5, ![64, 8, 8, 576, 64]⟩
abbrev S64x8x8x64x576 : Shape := ⟨5, ![64, 8, 8, 64, 576]⟩
abbrev S1x8x64x576 : Shape := ⟨4, ![1, 8, 64, 576]⟩
abbrev S1x1x8x64x576 : Shape := ⟨5, ![1, 1, 8, 64, 576]⟩
abbrev S8x8x64x576 : Shape := ⟨4, ![8, 8, 64, 576]⟩
abbrev S64x8x8x64 : Shape := ⟨4, ![64, 8, 8, 64]⟩
abbrev S64x8x8x64x1 : Shape := ⟨5, ![64, 8, 8, 64, 1]⟩
abbrev S8x64x64x8x64 : Shape := ⟨5, ![8, 64, 64, 8, 64]⟩

abbrev nBuf : Space → Nat
  | .hbm => 145
  | .vmem => 0
  | .smem => 0
  | _ => 0

abbrev hbmTy0_0 (i : Nat) : BufTy := match i % 128 with
  | 0 => ⟨S8x4096x512, .bf16⟩
  | 1 => ⟨S8x4096x512, .bf16⟩
  | 2 => ⟨S8x4096x512, .bf16⟩
  | 3 => ⟨S8x257, .f32⟩
  | 4 => ⟨S8x4096x512, .f32⟩
  | 5 => ⟨S8x4096x512, .f32⟩
  | 6 => ⟨S8x4096x512, .f32⟩
  | 7 => ⟨S8x4096x8x64, .f32⟩
  | 8 => ⟨S8x8x4096x64, .f32⟩
  | 9 => ⟨S8x4096x8x64, .f32⟩
  | 10 => ⟨S8x8x4096x64, .f32⟩
  | 11 => ⟨S8x4096x8x64, .f32⟩
  | 12 => ⟨S8x8x4096x64, .f32⟩
  | 13 => ⟨S_, .i32⟩
  | 14 => ⟨S_, .f32⟩
  | 15 => ⟨S8x8x4608x64, .f32⟩
  | 16 => ⟨S_, .i32⟩
  | 17 => ⟨S_, .f32⟩
  | 18 => ⟨S8x8x4608x64, .f32⟩
  | 19 => ⟨S64, .i32⟩
  | 20 => ⟨S64x1, .i32⟩
  | 21 => ⟨S_, .i32⟩
  | 22 => ⟨S64x1, .i32⟩
  | 23 => ⟨S64x1, .i32⟩
  | 24 => ⟨S576, .i32⟩
  | 25 => ⟨S1x576, .i32⟩
  | 26 => ⟨S64x576, .i32⟩
  | 27 => ⟨S64x576, .i32⟩
  | 28 => ⟨S64x576, .i32⟩
  | 29 => ⟨S_, .i32⟩
  | 30 => ⟨S_, .i32⟩
  | 31 => ⟨S_, .i32⟩
  | 32 => ⟨S64x576, .i32⟩
  | 33 => ⟨S64x576, .i32⟩
  | 34 => ⟨S_, .i32⟩
  | 35 => ⟨S64x576, .i32⟩
  | 36 => ⟨S64x576, .i32⟩
  | 37 => ⟨S_, .i32⟩
  | 38 => ⟨S64x576, .i32⟩
  | 39 => ⟨S64x576, .i32⟩
  | 40 => ⟨S_, .i32⟩
  | 41 => ⟨S64x576, .i32⟩
  | 42 => ⟨S64x576, .i1⟩
  | 43 => ⟨S_, .i32⟩
  | 44 => ⟨S64x576, .i32⟩
  | 45 => ⟨S64x576, .i32⟩
  | 46 => ⟨S64x576, .i32⟩
  | 47 => ⟨S64x576x1, .i32⟩
  | 48 => ⟨S8x64x576, .f32⟩
  | 49 => ⟨S576, .i32⟩
  | 50 => ⟨S64, .i32⟩
  | 51 => ⟨S_, .i32⟩
  | 52 => ⟨S64, .i32⟩
  | 53 => ⟨S64, .i32⟩
  | 54 => ⟨S_, .i32⟩
  | 55 => ⟨S64, .i32⟩
  | 56 => ⟨S64, .i1⟩
  | 57 => ⟨S_, .i32⟩
  | 58 => ⟨S64, .i32⟩
  | 59 => ⟨S64, .i32⟩
  | 60 => ⟨S64, .i32⟩
  | 61 => ⟨S_, .i32⟩
  | 62 => ⟨S64x1, .i32⟩
  | 63 => ⟨S_, .i32⟩
  | 64 => ⟨S64x1, .i32⟩
  | 65 => ⟨S64x1, .i32⟩
  | 66 => ⟨S_, .i32⟩
  | 67 => ⟨S64x1, .i32⟩
  | 68 => ⟨S64x4, .i32⟩
  | 69 => ⟨S64x8x8x64x64, .f32⟩
  | 70 => ⟨S_, .i32⟩
  | 71 => ⟨S64, .i32⟩
  | 72 => ⟨S64, .i1⟩
  | 73 => ⟨S_, .i32⟩
  | 74 => ⟨S64, .i32⟩
  | 75 => ⟨S64, .i32⟩
  | 76 => ⟨S64, .i32⟩
  | 77 => ⟨S_, .i32⟩
  | 78 => ⟨S64x1, .i32⟩
  | 79 => ⟨S_, .i32⟩
  | 80 => ⟨S64x1, .i32⟩
  | 81 => ⟨S64x1, .i32⟩
  | 82 => ⟨S_, .i32⟩
  | 83 => ⟨S64x1, .i32⟩
  | 84 => ⟨S64x4, .i32⟩
  | 85 => ⟨S64x8x8x576x64, .f32⟩
  | 86 => ⟨S_, .i32⟩
  | 87 => ⟨S64, .i32⟩
  | 88 => ⟨S64, .i1⟩
  | 89 => ⟨S_, .i32⟩
  | 90 => ⟨S64, .i32⟩
  | 91 => ⟨S64, .i32⟩
  | 92 => ⟨S64, .i32⟩
  | 93 => ⟨S_, .i32⟩
  | 94 => ⟨S64x1, .i32⟩
  | 95 => ⟨S_, .i32⟩
  | 96 => ⟨S64x1, .i32⟩
  | 97 => ⟨S64x1, .i32⟩
  | 98 => ⟨S_, .i32⟩
  | 99 => ⟨S64x1, .i32⟩
  | 100 => ⟨S64x4, .i32⟩
  | 101 => ⟨S64x8x8x576x64, .f32⟩
  | 102 => ⟨S64x8x8x64x576, .f32⟩
  | 103 => ⟨S_, .f32⟩
  | 104 => ⟨S64x8x8x64x576, .f32⟩
  | 105 => ⟨S64x8x8x64x576, .f32⟩
  | 106 => ⟨S1x8x64x576, .f32⟩
  | 107 => ⟨S1x1x8x64x576, .f32⟩
  | 108 => ⟨S64x8x8x64x576, .f32⟩
  | 109 => ⟨S64x8x8x64x576, .f32⟩
  | 110 => ⟨S_, .i32⟩
  | 111 => ⟨S64, .i32⟩
  | 112 => ⟨S64, .i32⟩
  | 113 => ⟨S1x576, .i32⟩
  | 114 => ⟨S64x1, .i32⟩
  | 115 => ⟨S64x576, .i32⟩
  | 116 => ⟨S64x576, .i32⟩
  | 117 => ⟨S64x576, .i32⟩
  | 118 => ⟨S_, .i32⟩
  | 119 => ⟨S64x576, .i32⟩
  | 120 => ⟨S64x576, .i1⟩
  | 121 => ⟨S_, .f32⟩
  | 122 => ⟨S_, .f32⟩
  | 123 => ⟨S64x8x8x64x576, .i1⟩
  | 124 => ⟨S8x8x64x576, .f32⟩
  | 125 => ⟨S64x8x8x64x576, .f32⟩
  | 126 => ⟨S64x8x8x64x576, .f32⟩
  | 127 => ⟨S_, .f32⟩
  | _ => ⟨S8x4096x512, .bf16⟩

abbrev hbmTy0_1 (i : Nat) : BufTy := match i % 128 with
  | 0 => ⟨S64x8x8x64, .f32⟩
  | 1 => ⟨S_, .f32⟩
  | 2 => ⟨S64x8x8x64, .f32⟩
  | 3 => ⟨S64x8x8x64, .f32⟩
  | 4 => ⟨S64x8x8x64x1, .f32⟩
  | 5 => ⟨S64x8x8x64x576, .f32⟩
  | 6 => ⟨S64x8x8x64x576, .f32⟩
  | 7 => ⟨S64x8x8x64x576, .f32⟩
  | 8 => ⟨S_, .f32⟩
  | 9 => ⟨S64x8x8x64, .f32⟩
  | 10 => ⟨S64x8x8x64x1, .f32⟩
  | 11 => ⟨S64x8x8x64x576, .f32⟩
  | 12 => ⟨S64x8x8x64x576, .f32⟩
  | 13 => ⟨S64x8x8x64x64, .f32⟩
  | 14 => ⟨S8x64x64x8x64, .f32⟩
  | 15 => ⟨S8x4096x512, .f32⟩
  | 16 => ⟨S8x4096x512, .bf16⟩
  | _ => ⟨S8x4096x512, .bf16⟩

abbrev hbmTy (i : Nat) : BufTy := match i / 128 with
  | 0 => hbmTy0_0 i
  | 1 => hbmTy0_1 i
  | _ => ⟨S8x4096x512, .bf16⟩

abbrev bufTy : (tb : Table) → Fin (tcTables nBuf tb) → BufTy
  | .hbm, ⟨i, _⟩ => hbmTy i
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_c_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_c_12 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_13 : Ref sig .tc := ⟨.hbm, 70, rfl⟩
abbrev main_v45 : Ref sig .tc := ⟨.hbm, 71, rfl⟩
abbrev main_v46 : Ref sig .tc := ⟨.hbm, 72, rfl⟩
abbrev main_c_14 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_15 : Ref sig .tc := ⟨.hbm, 77, rfl⟩
abbrev main_v50 : Ref sig .tc := ⟨.hbm, 78, rfl⟩
abbrev main_c_16 : Ref sig .tc := ⟨.hbm, 79, rfl⟩
abbrev main_v51 : Ref sig .tc := ⟨.hbm, 80, rfl⟩
abbrev main_v52 : Ref sig .tc := ⟨.hbm, 81, rfl⟩
abbrev main_c_17 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_18 : Ref sig .tc := ⟨.hbm, 86, rfl⟩
abbrev main_v56 : Ref sig .tc := ⟨.hbm, 87, rfl⟩
abbrev main_v57 : Ref sig .tc := ⟨.hbm, 88, rfl⟩
abbrev main_c_19 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_20 : Ref sig .tc := ⟨.hbm, 93, rfl⟩
abbrev main_v61 : Ref sig .tc := ⟨.hbm, 94, rfl⟩
abbrev main_c_21 : Ref sig .tc := ⟨.hbm, 95, rfl⟩
abbrev main_v62 : Ref sig .tc := ⟨.hbm, 96, rfl⟩
abbrev main_v63 : Ref sig .tc := ⟨.hbm, 97, rfl⟩
abbrev main_c_22 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_23 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_24 : Ref sig .tc := ⟨.hbm, 118, rfl⟩
abbrev main_v81 : Ref sig .tc := ⟨.hbm, 119, rfl⟩
abbrev main_v82 : Ref sig .tc := ⟨.hbm, 120, rfl⟩
abbrev main_cst_25 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_v83 : Ref sig .tc := ⟨.hbm, 126, rfl⟩
abbrev main_cst_26 : Ref sig .tc := ⟨.hbm, 127, rfl⟩
abbrev main_v84 : Ref sig .tc := ⟨.hbm, 128, rfl⟩
abbrev main_cst_27 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_28 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S1024x1024 : Shape := ⟨2, ![1024, 1024]⟩
abbrev S1024x512 : Shape := ⟨2, ![1024, 512]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S128x256 : Shape := ⟨2, ![128, 256]⟩
abbrev S1x1024 : Shape := ⟨2, ![1, 1024]⟩
abbrev S1x256 : Shape := ⟨2, ![1, 256]⟩
abbrev S32768x256 : Shape := ⟨2, ![32768, 256]⟩
abbrev S32768x512 : Shape := ⟨2, ![32768, 512]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩

abbrev nBuf : Space → Nat
  | .hbm => 30
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S1024x1024, .f32⟩
  | .hbm, ⟨6, _⟩ => ⟨S1024x512, .f32⟩
  | .hbm, ⟨7, _⟩ => ⟨S1024x1536, .f32⟩
  | .hbm, ⟨8, _⟩ => ⟨S1024x1536, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x1536, .f32⟩
  | .hbm, ⟨15, _⟩ => ⟨S1024x1536, .bf16⟩
  | .hbm, ⟨16, _⟩ => ⟨S_, .i32⟩
  | .hbm, ⟨17, _⟩ => ⟨S_, .f32⟩
  | .hbm, ⟨18, _⟩ => ⟨S128x256, .f32⟩
  | .hbm, ⟨19, _⟩ => ⟨S128x256, .bf16⟩
  | .hbm, ⟨20, _⟩ => ⟨S1x1024, .f32⟩
  | .hbm, ⟨21, _⟩ => ⟨S1x256, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x512, .f32⟩
  | .hbm, ⟨26, _⟩ => ⟨S32768x512, .f32⟩
  | .hbm, ⟨27, _⟩ => ⟨S32768x512, .bf16⟩
  | .hbm, ⟨28, _⟩ => ⟨S32768x512, .bf16⟩
  | .hbm, ⟨29, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .bf16⟩
  | .local _ .vmem, ⟨5, _⟩ => ⟨S128x256, .bf16⟩
  | .local _ .vmem, ⟨6, _⟩ => ⟨S1x256, .f32⟩
  | .local _ .vmem, ⟨7, _⟩ => ⟨S1024x1536, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S32768x1024 : Shape := ⟨2, ![32768, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3088 : Shape := ⟨2, ![32768, 3088]⟩
abbrev S32768x256 : Shape := ⟨2, ![32768, 256]⟩
abbrev S32768x512 : Shape := ⟨2, ![32768, 512]⟩
abbrev S32768x16 : Shape := ⟨2, ![32768, 16]⟩
abbrev S1x256 : Shape := ⟨2, ![1, 256]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x3088, .f32⟩
  | .hbm, ⟨22, _⟩ => ⟨S32768x256, .f32⟩
  | .hbm, ⟨23, _⟩ => ⟨S32768x256, .f32⟩
  | .hbm, ⟨24, _⟩ => ⟨S32768x512, .f32⟩
  | .hbm, ⟨25, _⟩ => ⟨S32768x16, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x256, .f32⟩
  | .hbm, ⟨31, _⟩ => ⟨S1x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S_, .f32⟩
  | .hbm, ⟨36, _⟩ => ⟨S32768x256, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .i1⟩
  | .hbm, ⟨41, _⟩ => ⟨S32768x256, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S32768x256, .f32⟩
  | .hbm, ⟨50, _⟩ => ⟨S_, .f32⟩
  | .hbm, ⟨51, _⟩ => ⟨S32768x256, .f32⟩
  | .hbm, ⟨52, _⟩ => ⟨S32768x256, .f32⟩
  | .hbm, ⟨53, _⟩ => ⟨S32768x512, .bf16⟩
  | .hbm, ⟨54, _⟩ => ⟨S32768x512, .bf16⟩
  | .hbm, ⟨55, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Kernel3.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S16x32768x128 : Shape := ⟨3, ![16, 32768, 128]⟩
abbrev S512x512 : Shape := ⟨2, ![512, 512]⟩
abbrev S512x1024 : Shape := ⟨2, ![512, 1024]⟩
abbrev S16x512x128 : Shape := ⟨3, ![16, 512, 128]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S1x512x128 : Shape := ⟨3, ![1, 512, 128]⟩

abbrev nBuf : Space → Nat
  | .hbm => 12
  | .vmem => 15
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S1024x1024, .bf16⟩
  | .hbm, ⟨7, _⟩ => ⟨S1x1024, .f32⟩
  | .hbm, ⟨8, _⟩ => ⟨S1024x2048, .bf16⟩
  | .hbm, ⟨9, _⟩ => ⟨S32768x1024, .f32⟩
  | .hbm, ⟨10, _⟩ => ⟨S32768x1024, .f32⟩
  | .hbm, ⟨11, _⟩ => ⟨S16x32768x128, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S16x512x128, .bf16⟩
  | .local _ .vmem, ⟨14, _⟩ => ⟨S16x512x128, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S32768x8x2x128 : Shape := ⟨4, ![32768, 8, 2, 128]⟩
abbrev S8x2x32768x128 : Shape := ⟨4, ![8, 2, 32768, 128]⟩
abbrev S16x32768x128 : Shape := ⟨3, ![16, 32768, 128]⟩

abbrev nBuf : Space → Nat
  | .hbm => 32
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S32768x512, .f32⟩
  | .hbm, ⟨7, _⟩ => ⟨S32768x512, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x2048, .f32⟩
  | .hbm, ⟨28, _⟩ => ⟨S32768x8x2x128, .f32⟩
  | .hbm, ⟨29, _⟩ => ⟨S8x2x32768x128, .f32⟩
  | .hbm, ⟨30, _⟩ => ⟨S16x32768x128, .f32⟩
  | .hbm, ⟨31, _⟩ => ⟨S16x32768x128, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel4.lean ====
abbrev S32768x1024 : Shape := ⟨2, ![32768, 1024]⟩
abbrev S8x4096x256 : Shape := ⟨3, ![8, 4096, 256]⟩
abbrev S1024 : Shape := ⟨1, ![1024]⟩
abbrev S1024x1024 : Shape := ⟨2, ![1024, 1024]⟩
abbrev S256x1024 : Shape := ⟨2, ![256, 1024]⟩
abbrev S32768x256 : Shape := ⟨2, ![32768, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S8x4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S32768x256, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x1024 : Shape := ⟨2, ![32768, 1024]⟩
abbrev S8x4096x256 : Shape := ⟨3, ![8, 4096, 256]⟩
abbrev S1024 : Shape := ⟨1, ![1024]⟩
abbrev S1024x1024 : Shape := ⟨2, ![1024, 1024]⟩
abbrev S256x1024 : Shape := ⟨2, ![256, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8x4096x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel5.lean ====
abbrev S8x4096x256 : Shape := ⟨3, ![8, 4096, 256]⟩
abbrev S8x4096x512 : Shape := ⟨3, ![8, 4096, 512]⟩
abbrev S128 : Shape := ⟨1, ![128]⟩
abbrev S1x128 : Shape := ⟨2, ![1, 128]⟩
abbrev S1x64x256 : Shape := ⟨3, ![1, 64, 256]⟩
abbrev S1x64x512 : Shape := ⟨3, ![1, 64, 512]⟩
abbrev S256x512 : Shape := ⟨2, ![256, 512]⟩
abbrev S64x256 : Shape := ⟨2, ![64, 256]⟩
abbrev S64x64 : Shape := ⟨2, ![64, 64]⟩
abbrev S1x256 : Shape := ⟨2, ![1, 256]⟩
abbrev S64x512 : Shape := ⟨2, ![64, 512]⟩
abbrev S256x256 : Shape := ⟨2, ![256, 256]⟩
abbrev S256x64 : Shape := ⟨2, ![256, 64]⟩
abbrev S64x128 : Shape := ⟨2, ![64, 128]⟩
abbrev S128x256 : Shape := ⟨2, ![128, 256]⟩
abbrev S256x128 : Shape := ⟨2, ![256, 128]⟩
abbrev S64 : Shape := ⟨1, ![64]⟩
abbrev S64x1 : Shape := ⟨2, ![64, 1]⟩

abbrev nBuf : Space → Nat
  | .hbm => 8
  | .vmem => 14
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x512, .f32⟩
  | .hbm, ⟨4, _⟩ => ⟨S8x4096x512, .f32⟩
  | .hbm, ⟨5, _⟩ => ⟨S128, .f32⟩
  | .hbm, ⟨6, _⟩ => ⟨S1x128, .f32⟩
  | .hbm, ⟨7, _⟩ => ⟨S8x4096x512, .bf16⟩
  | .local _ .vmem, ⟨0, _⟩ => ⟨S1x64x256, .f32⟩
  | .local _ .vmem, ⟨1, _⟩ => ⟨S1x64x256, .f32⟩
  | .local _ .vmem, ⟨2, _⟩ => ⟨S1x64x256, .f32⟩
  | .local _ .vmem, ⟨3, _⟩ => ⟨S1x64x256, .f32⟩
  | .local _ .vmem, ⟨4, _⟩ => ⟨S1x64x256, .f32⟩
  | .local _ .vmem, ⟨5, _⟩ => ⟨S1x64x256, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x128, .f32⟩
  | .local _ .vmem, ⟨11, _⟩ => ⟨S1x64x512, .bf16⟩
  | .local _ .vmem, ⟨12, _⟩ => ⟨S1x64x512, .bf16⟩
  | .local _ .vmem, ⟨13, _⟩ => ⟨S256x512, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x4096x256 : Shape := ⟨3, ![8, 4096, 256]⟩
abbrev S8x4096x512 : Shape := ⟨3, ![8, 4096, 512]⟩
abbrev S128 : Shape := ⟨1, ![128]⟩
abbrev S8x64x64x4x64 : Shape := ⟨5, ![8, 64, 64, 4, 64]⟩
abbrev S8x4x64x64x64 : Shape := ⟨5, ![8, 4, 64, 64, 64]⟩
abbrev S_ : Shape := ⟨0, ![]⟩
abbrev S8x4x64x1x64 : Shape := ⟨5, ![8, 4, 64, 1, 64]⟩
abbrev S8x4x64x64 : Shape := ⟨4, ![8, 4, 64, 64]⟩
abbrev S64x8x4x64x64 : Shape := ⟨5, ![64, 8, 4, 64, 64]⟩
abbrev S8x64x64x4x128 : Shape := ⟨5, ![8, 64, 64, 4, 128]⟩
abbrev S8x4x64x64x128 : Shape := ⟨5, ![8, 4, 64, 64, 128]⟩
abbrev S64x8x4x64x128 : Shape := ⟨5, ![64, 8, 4, 64, 128]⟩
abbrev S64x8x4x64 : Shape := ⟨4, ![64, 8, 4, 64]⟩
abbrev S8x4x64x128 : Shape := ⟨4, ![8, 4, 64, 128]⟩
abbrev S1x8x4x64x64 : Shape := ⟨5, ![1, 8, 4, 64, 64]⟩
abbrev S1x8x4x64x128 : Shape := ⟨5, ![1, 8, 4, 64, 128]⟩
abbrev S1x8x4x64 : Shape := ⟨4, ![1, 8, 4, 64]⟩
abbrev S8x4x64 : Shape := ⟨3, ![8, 4, 64]⟩
abbrev S8x4x64x1 : Shape := ⟨4, ![8, 4, 64, 1]⟩
abbrev S64x64 : Shape := ⟨2, ![64, 64]⟩
abbrev S8x4x64x64x1 : Shape := ⟨5, ![8, 4, 64, 64, 1]⟩
abbrev S1x1x1x1x128 : Shape := ⟨5, ![1, 1, 1, 1, 128]⟩

abbrev nBuf : Space → Nat
  | .hbm => 143
  | .vmem => 0
  | .smem => 0
  | _ => 0

abbrev hbmTy0_0 (i : Nat) : BufTy := match i % 128 with
  | 0 => ⟨S8x4096x256, .f32⟩
  | 1 => ⟨S8x4096x256, .f32⟩
  | 2 => ⟨S8x4096x256, .f32⟩
  | 3 => ⟨S8x4096x512, .f32⟩
  | 4 => ⟨S8x4096x512, .f32⟩
  | 5 => ⟨S128, .f32⟩
  | 6 => ⟨S8x64x64x4x64, .f32⟩
  | 7 => ⟨S8x4x64x64x64, .f32⟩
  | 8 => ⟨S_, .f32⟩
  | 9 => ⟨S_, .f32⟩
  | 10 => ⟨S8x4x64x64x64, .f32⟩
  | 11 => ⟨S8x4x64x1x64, .f32⟩
  | 12 => ⟨S8x64x64x4x64, .f32⟩
  | 13 => ⟨S8x4x64x64x64, .f32⟩
  | 14 => ⟨S8x4x64x64x64, .f32⟩
  | 15 => ⟨S8x4x64x64x64, .f32⟩
  | 16 => ⟨S8x4x64x64x64, .f32⟩
  | 17 => ⟨S8x4x64x64x64, .f32⟩
  | 18 => ⟨S8x4x64x64, .f32⟩
  | 19 => ⟨S8x4x64x64, .f32⟩
  | 20 => ⟨S64x8x4x64x64, .f32⟩
  | 21 => ⟨S8x64x64x4x128, .f32⟩
  | 22 => ⟨S8x4x64x64x128, .f32⟩
  | 23 => ⟨S64x8x4x64x128, .f32⟩
  | 24 => ⟨S64x8x4x64, .f32⟩
  | 25 => ⟨S_, .f32⟩
  | 26 => ⟨S8x4x64x128, .f32⟩
  | 27 => ⟨S_, .f32⟩
  | 28 => ⟨S64x8x4x64x128, .f32⟩
  | 29 => ⟨S_, .i32⟩
  | 30 => ⟨S64x8x4x64x64, .f32⟩
  | 31 => ⟨S64x8x4x64x128, .f32⟩
  | 32 => ⟨S64x8x4x64, .f32⟩
  | 33 => ⟨S_, .i32⟩
  | 34 => ⟨S8x4x64x128, .f32⟩
  | 35 => ⟨S64x8x4x64x128, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1x8x4x64x64, .f32⟩
  | 43 => ⟨S8x4x64x64, .f32⟩
  | 44 => ⟨S_, .i32⟩
  | 45 => ⟨S_, .i32⟩
  | 46 => ⟨S_, .i32⟩
  | 47 => ⟨S_, .i32⟩
  | 48 => ⟨S1x8x4x64x128, .f32⟩
  | 49 => ⟨S8x4x64x128, .f32⟩
  | 50 => ⟨S_, .i32⟩
  | 51 => ⟨S_, .i32⟩
  | 52 => ⟨S_, .i32⟩
  | 53 => ⟨S1x8x4x64, .f32⟩
  | 54 => ⟨S8x4x64, .f32⟩
  | 55 => ⟨S8x4x64x1, .f32⟩
  | 56 => ⟨S8x4x64x128, .f32⟩
  | 57 => ⟨S8x4x64x128, .f32⟩
  | 58 => ⟨S8x4x64x128, .f32⟩
  | 59 => ⟨S8x4x64x128, .f32⟩
  | 60 => ⟨S1x8x4x64x128, .f32⟩
  | 61 => ⟨S_, .i32⟩
  | 62 => ⟨S_, .i32⟩
  | 63 => ⟨S_, .i32⟩
  | 64 => ⟨S_, .i32⟩
  | 65 => ⟨S64x8x4x64x128, .f32⟩
  | 66 => ⟨S_, .i32⟩
  | 67 => ⟨S_, .i32⟩
  | 68 => ⟨S8x64x64x4x64, .f32⟩
  | 69 => ⟨S8x4x64x64x64, .f32⟩
  | 70 => ⟨S_, .f32⟩
  | 71 => ⟨S_, .f32⟩
  | 72 => ⟨S8x4x64x64x64, .f32⟩
  | 73 => ⟨S8x4x64x1x64, .f32⟩
  | 74 => ⟨S8x64x64x4x64, .f32⟩
  | 75 => ⟨S8x4x64x64x64, .f32⟩
  | 76 => ⟨S_, .f32⟩
  | 77 => ⟨S8x4x64x64x64, .f32⟩
  | 78 => ⟨S8x4x64x64x64, .f32⟩
  | 79 => ⟨S8x4x64x1x64, .f32⟩
  | 80 => ⟨S8x4x64x64x64, .f32⟩
  | 81 => ⟨S8x4x64x64x64, .f32⟩
  | 82 => ⟨S8x4x64x64x64, .f32⟩
  | 83 => ⟨S8x4x64x64x64, .f32⟩
  | 84 => ⟨S8x64x64x4x64, .f32⟩
  | 85 => ⟨S8x4x64x64x64, .f32⟩
  | 86 => ⟨S8x4x64x64x64, .f32⟩
  | 87 => ⟨S8x4x64x64x64, .f32⟩
  | 88 => ⟨S8x4x64x64x64, .f32⟩
  | 89 => ⟨S8x4x64x64x64, .f32⟩
  | 90 => ⟨S8x4x64x64x64, .f32⟩
  | 91 => ⟨S_, .i1⟩
  | 92 => ⟨S64x64, .i1⟩
  | 93 => ⟨S64x64, .i32⟩
  | 94 => ⟨S_, .i32⟩
  | 95 => ⟨S64x64, .i32⟩
  | 96 => ⟨S64x64, .i32⟩
  | 97 => ⟨S64x64, .i32⟩
  | 98 => ⟨S64x64, .i1⟩
  | 99 => ⟨S_, .i1⟩
  | 100 => ⟨S64x64, .i1⟩
  | 101 => ⟨S64x64, .i1⟩
  | 102 => ⟨S_, .f32⟩
  | 103 => ⟨S_, .f32⟩
  | 104 => ⟨S8x4x64x64x64, .i1⟩
  | 105 => ⟨S8x4x64x64x64, .f32⟩
  | 106 => ⟨S8x4x64x64x64, .f32⟩
  | 107 => ⟨S8x64x64x4x128, .f32⟩
  | 108 => ⟨S8x4x64x64x128, .f32⟩
  | 109 => ⟨S8x4x64x64x128, .f32⟩
  | 110 => ⟨S8x4x64x64x64, .f32⟩
  | 111 => ⟨S8x4x64x64x64, .f32⟩
  | 112 => ⟨S8x4x64x64x128, .f32⟩
  | 113 => ⟨S8x4x64x64x128, .f32⟩
  | 114 => ⟨S8x4x64x64x128, .f32⟩
  | 115 => ⟨S_, .f32⟩
  | 116 => ⟨S8x4x64x64, .f32⟩
  | 117 => ⟨S8x4x64x64x1, .f32⟩
  | 118 => ⟨S_, .f32⟩
  | 119 => ⟨S8x4x64x64x1, .f32⟩
  | 120 => ⟨S8x4x64x64x1, .f32⟩
  | 121 => ⟨S_, .f32⟩
  | 122 => ⟨S8x4x64x64x1, .f32⟩
  | 123 => ⟨S8x4x64x64x1, .f32⟩
  | 124 => ⟨S8x4x64x64x1, .f32⟩
  | 125 => ⟨S8x4x64x64x128, .f32⟩
  | 126 => ⟨S8x4x64x64x128, .f32⟩
  | 127 => ⟨S1x1x1x1x128, .f32⟩
  | _ => ⟨S8x4096x256, .f32⟩

abbrev hbmTy0_1 (i : Nat) : BufTy := match i % 128 with
  | 0 => ⟨S8x4x64x64x128, .f32⟩
  | 1 => ⟨S8x4x64x64x128, .f32⟩
  | 2 => ⟨S8x64x64x4x128, .f32⟩
  | 3 => ⟨S8x4096x512, .f32⟩
  | 4 => ⟨S8x4096x512, .f32⟩
  | 5 => ⟨S8x4096x512, .f32⟩
  | 6 => ⟨S_, .f32⟩
  | 7 => ⟨S8x4096x512, .f32⟩
  | 8 => ⟨S8x4096x512, .f32⟩
  | 9 => ⟨S_, .f32⟩
  | 10 => ⟨S8x4096x512, .f32⟩
  | 11 => ⟨S8x4096x512, .f32⟩
  | 12 => ⟨S8x4096x512, .f32⟩
  | 13 => ⟨S8x4096x512, .f32⟩
  | 14 => ⟨S8x4096x512, .bf16⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_c : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_while0c_c_12 : Ref sig .tc := ⟨.hbm, 36, rfl⟩
abbrev main_while0c_v68 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_c_2 : Ref sig .tc := ⟨.hbm, 41, rfl⟩
abbrev main_while0b_call1_v0 : Ref sig .tc := ⟨.hbm, 42, rfl⟩
abbrev main_while0b_v68 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_c_1 : Ref sig .tc := ⟨.hbm, 46, rfl⟩
abbrev main_while0b_call2_c_2 : Ref sig .tc := ⟨.hbm, 47, rfl⟩
abbrev main_while0b_call2_v0 : Ref sig .tc := ⟨.hbm, 48, rfl⟩
abbrev main_while0b_v69 : Ref sig .tc := ⟨.hbm, 49, rfl⟩
abbrev main_while0b_call3_c : Ref sig .tc := ⟨.hbm, 50, rfl⟩
abbrev main_while0b_call3_c_0 : Ref sig .tc := ⟨.hbm, 51, rfl⟩
abbrev main_while0b_call3_c_1 : Ref sig .tc := ⟨.hbm, 52, rfl⟩
abbrev main_while0b_call3_v0 : Ref sig .tc := ⟨.hbm, 53, rfl⟩
abbrev main_while0b_v70 : Ref sig .tc := ⟨.hbm, 54, rfl⟩
abbrev main_while0b_v71 : Ref sig .tc := ⟨.hbm, 55, rfl⟩
abbrev main_while0b_v72 : Ref sig .tc := ⟨.hbm, 56, rfl⟩
abbrev main_while0b_v73 : Ref sig .tc := ⟨.hbm, 57, rfl⟩
abbrev main_while0b_v74 : Ref sig .tc := ⟨.hbm, 58, rfl⟩
abbrev main_while0b_v75 : Ref sig .tc := ⟨.hbm, 59, rfl⟩
abbrev main_while0b_call4_v0 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_call4_c_1 : Ref sig .tc := ⟨.hbm, 63, rfl⟩
abbrev main_while0b_call4_c_2 : Ref sig .tc := ⟨.hbm, 64, rfl⟩
abbrev main_while0b_v76 : Ref sig .tc := ⟨.hbm, 65, rfl⟩
abbrev main_while0b_c_12 : Ref sig .tc := ⟨.hbm, 66, rfl⟩
abbrev main_while0b_v77 : Ref sig .tc := ⟨.hbm, 67, rfl⟩
abbrev main_v20 : Ref sig .tc := ⟨.hbm, 68, rfl⟩
abbrev main_v21 : Ref sig .tc := ⟨.hbm, 69, rfl⟩
abbrev main_call5_call0_cst : Ref sig .tc := ⟨.hbm, 70, rfl⟩
abbrev main_call5_call0_v0 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_cst_1 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_2 : Ref sig .tc := ⟨.hbm, 91, rfl⟩
abbrev main_v40 : Ref sig .tc := ⟨.hbm, 92, rfl⟩
abbrev main_call6_v0 : Ref sig .tc := ⟨.hbm, 93, rfl⟩
abbrev main_call6_c : Ref sig .tc := ⟨.hbm, 94, rfl⟩
abbrev main_call6_v1 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_c_0 : Ref sig .tc := ⟨.hbm, 99, rfl⟩
abbrev main_call6_v5 : Ref sig .tc := ⟨.hbm, 100, rfl⟩
abbrev main_v41 : Ref sig .tc := ⟨.hbm, 101, rfl⟩
abbrev main_cst_3 : Ref sig .tc := ⟨.hbm, 102, rfl⟩
abbrev main_call7_v0 : Ref sig .tc := ⟨.hbm, 103, rfl⟩
abbrev main_call7_v1 : Ref sig .tc := ⟨.hbm, 104, rfl⟩
abbrev main_call7_v2 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_cst_4 : Ref sig .tc := ⟨.hbm, 115, rfl⟩
abbrev main_v51 : Ref sig .tc := ⟨.hbm, 116, rfl⟩
abbrev main_v52 : Ref sig .tc := ⟨.hbm, 117, rfl⟩
abbrev main_cst_5 : Ref sig .tc := ⟨.hbm, 118, rfl⟩
abbrev main_v53 : Ref sig .tc := ⟨.hbm, 119, rfl⟩
abbrev main_v54 : Ref sig .tc := ⟨.hbm, 120, rfl⟩
abbrev main_cst_6 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_call8_v0 : Ref sig .tc := ⟨.hbm, 132, rfl⟩
abbrev main_call8_v1 : Ref sig .tc := ⟨.hbm, 133, rfl⟩
abbrev main_call8_cst : Ref sig .tc := ⟨.hbm, 134, rfl⟩
abbrev main_call8_v2 : Ref sig .tc := ⟨.hbm, 135, rfl⟩
abbrev main_call8_v3 : Ref sig .tc := ⟨.hbm, 136, rfl⟩
abbrev main_call8_cst_0 : Ref sig .tc := ⟨.hbm, 137, rfl⟩
abbrev main_call8_v4 : Ref sig .tc := ⟨.hbm, 138, rfl⟩
abbrev main_call8_v5 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩

abbrev nD : Nat := 1
abbrev τ : Topo := Topo.v7x

variable {F : FTy → Type} [FloatOps F]

abbrev main_while0_count : Scf.Loop 32 := ⟨0#32, 64#32, 1#32⟩
-- ==== Kernel6.lean ====
abbrev S32768x1024 : Shape := ⟨2, ![32768, 1024]⟩
abbrev S8x4096x256 : Shape := ⟨3, ![8, 4096, 256]⟩
abbrev S1024 : Shape := ⟨1, ![1024]⟩
abbrev S1024x1024 : Shape := ⟨2, ![1024, 1024]⟩
abbrev S256x1024 : Shape := ⟨2, ![256, 1024]⟩
abbrev S32768x256 : Shape := ⟨2, ![32768, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S8x4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S32768x256, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x1024 : Shape := ⟨2, ![32768, 1024]⟩
abbrev S8x4096x256 : Shape := ⟨3, ![8, 4096, 256]⟩
abbrev S1024 : Shape := ⟨1, ![1024]⟩
abbrev S1024x1024 : Shape := ⟨2, ![1024, 1024]⟩
abbrev S256x1024 : Shape := ⟨2, ![256, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8x4096x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proof.BandMath.lean ====
/- The banded attention, read at an index: the formulas of one row, the two ways to divide by the sum of the
   weights, and the kernel's stored block as these formulas. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Layer

/-- One score of one head: the product of the query and the key over the head's 64 lanes, scaled by an eighth, plus the
    relative bias; a key before the first valid one gets the mask constant. -/
def headScore (n : ℕ) (q : Fin 64 → EReal) (k : Fin 576 → Fin 64 → EReal) (b : Fin 576 → EReal) (j : Fin 576) : EReal :=
  if n ≤ j.val then (∑ d, q d * k j d) * Ideal.ofBits .f32 0x3E000000#32 + b j else Ideal.ofBits .f32 0xF149F2CA#32

/-- The unnormalised softmax weight of a key: the exponential of its score less the largest one. -/
def softWeight (s : Fin 576 → EReal) (j : Fin 576) : EReal :=
  Ideal.exp (s j - Finset.univ.fold max (Ideal.ofBits .f32 0xFF800000#32) s)

/-- The weighted sum of the values, divided by the sum of the weights. -/
def attend (s v : Fin 576 → EReal) : EReal :=
  Ideal.div (∑ j, softWeight s j * v j) (∑ j, softWeight s j)

/-- A choice by a truth word is the choice by its condition. -/
theorem select_word (p : Prop) [Decidable p] (x y : EReal) : Scalar.select (if p then 1#1 else 0#1) x y = if p then x else y := by
  by_cases h : p <;> simp [h, Scalar.select]

/-- A choice by a negated truth word is the opposite choice. -/
theorem xor_word (p : Prop) [Decidable p] (x y : EReal) :
    Scalar.select (IntOp.xori (if p then 1#1 else 0#1) 1#1) x y = if p then y else x := by
  by_cases h : p <;> simp [h, Scalar.select, IntOp.xori]

/-- A sum over 128 lanes of which the upper half is zero is the sum over the lower 64. -/
theorem sum_low (f : Fin 128 → EReal) : (∑ x, if x.val < 64 then f x else 0) = ∑ d : Fin 64, f ⟨d.val, by omega⟩ := by
  rw [Fin.sum_univ_add (a := 64) (b := 64) (f := fun x : Fin (64 + 64) => if x.val < 64 then f x else 0)]
  have h1 : ∀ i : Fin 64, (if (Fin.castAdd 64 i).val < 64 then f (Fin.castAdd 64 i) else 0) = f ⟨i.val, by omega⟩ :=
    fun i => if_pos i.isLt
  have h2 : ∀ i : Fin 64, (if (Fin.natAdd 64 i).val < 64 then f (Fin.natAdd 64 i) else 0) = 0 :=
    fun i => if_neg (by simp)
  simp only [h1, h2, Finset.sum_const_zero, add_zero]

/-- A sum over 128 lanes of which the lower half is zero is the sum over the upper 64. -/
theorem sum_high (f : Fin 128 → EReal) : (∑ x, if x.val < 64 then 0 else f x) = ∑ d : Fin 64, f ⟨64 + d.val, by omega⟩ := by
  rw [Fin.sum_univ_add (a := 64) (b := 64) (f := fun x : Fin (64 + 64) => if x.val < 64 then 0 else f x)]
  have h1 : ∀ i : Fin 64, (if (Fin.castAdd 64 i).val < 64 then 0 else f (Fin.castAdd 64 i)) = 0 :=
    fun i => if_pos i.isLt
  have h2 : ∀ i : Fin 64, (if (Fin.natAdd 64 i).val < 64 then 0 else f (Fin.natAdd 64 i)) = f ⟨64 + i.val, by omega⟩ :=
    fun i => if_neg (by simp)
  simp only [h1, h2, Finset.sum_const_zero, zero_add]

/-- The same average with each weight divided first. -/
def attendShare (s v : Fin 576 → EReal) : EReal := ∑ j, Ideal.div (softWeight s j) (∑ j, softWeight s j) * v j

/-- The word a maximum starts from is minus infinity. -/
theorem low_word : Ideal.ofBits .f32 0xFF800000#32 = ⊥ := by
  simp [Ideal.ofBits, Ideal.ieee]

/-- Among reals the weights are positive reals. -/
theorem softWeight_real (s : Fin 576 → EReal) (hs : ∀ j, ∃ x : ℝ, s j = x) : ∃ e : Fin 576 → ℝ, (∀ j, 0 < e j) ∧ ∀ j, softWeight s j = e j := by
  choose x hx using hs
  obtain ⟨i, hi⟩ : ∃ i, Finset.univ.fold max (Ideal.ofBits .f32 0xFF800000#32) s = s i := by
    rw [low_word]
    obtain ⟨i, _, hi⟩ := Finset.exists_mem_eq_sup (Finset.univ : Finset (Fin 576)) ⟨0, Finset.mem_univ _⟩ s
    exact ⟨i, hi⟩
  refine ⟨fun j => Real.exp (x j - x i), fun j => Real.exp_pos _, fun j => ?_⟩
  rw [softWeight, hi, hx, hx, ← EReal.coe_sub]
  rfl

/-- A sum of reals is real. -/
theorem sum_real (e : Fin 576 → ℝ) : ∑ j, (e j : EReal) = ((∑ j, e j : ℝ) : EReal) := by
  exact (map_sum (⟨⟨Real.toEReal, rfl⟩, EReal.coe_add⟩ : ℝ →+ EReal) e Finset.univ).symm

/-- A nonnegative real factor moves into a sum of extended reals. -/
theorem sum_mul_real (f : Fin 576 → EReal) (c : ℝ) (hc : 0 ≤ c) : (∑ j, f j) * (c : EReal) = ∑ j, f j * (c : EReal) := by
  have : ∀ t : Finset (Fin 576), (∑ j ∈ t, f j) * (c : EReal) = ∑ j ∈ t, f j * (c : EReal) := by
    intro t
    induction t using Finset.induction_on with
    | empty => simp
    | insert a t ha ih =>
      rw [Finset.sum_insert ha, Finset.sum_insert ha, EReal.right_distrib_of_nonneg_of_ne_top (EReal.coe_nonneg.2 hc) (EReal.coe_ne_top c), ih]
  exact this _

/-- Dividing the sum, or each weight, is the same where the scores are reals. -/
theorem attend_eq_share (s v : Fin 576 → EReal) (hs : ∀ j, ∃ x : ℝ, s j = x) : attend s v = attendShare s v := by
  obtain ⟨e, he, hw⟩ := softWeight_real s hs
  have hpos : 0 < ∑ j, e j := Finset.sum_pos (fun j _ => he j) ⟨0, Finset.mem_univ _⟩
  unfold attend attendShare
  simp only [hw, sum_real]
  have hd : ∀ x : EReal, Ideal.div x ((∑ j, e j : ℝ) : EReal) = x * (((∑ j, e j)⁻¹ : ℝ) : EReal) := by
    intro x
    rw [Ideal.div, if_neg (by exact_mod_cast hpos.ne')]
    rfl
  simp only [hd]
  rw [sum_mul_real _ _ (inv_nonneg.2 hpos.le)]
  exact Finset.sum_congr rfl fun j _ => mul_right_comm _ _ _

/-- A product of reals is real. -/
theorem mul_finite {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

/-- A sum of two reals is real. -/
theorem add_finite {a b : EReal} (ha : ∃ x : ℝ, a = x) (hb : ∃ x : ℝ, b = x) : ∃ x : ℝ, a + b = x := by
  obtain ⟨x, rfl⟩ := ha
  obtain ⟨y, rfl⟩ := hb
  exact ⟨x + y, (EReal.coe_add x y).symm⟩

/-- A sum of 64 reals is real. -/
theorem sum_finite (f : Fin 64 → EReal) (hf : ∀ d, ∃ x : ℝ, f d = x) : ∃ x : ℝ, ∑ d, f d = x := by
  choose x hx using hf
  exact ⟨∑ d, x d, by
    simp only [hx]
    exact (map_sum (⟨⟨Real.toEReal, rfl⟩, EReal.coe_add⟩ : ℝ →+ EReal) x Finset.univ).symm⟩

/-- The score's factor is real. -/
theorem scale_finite : ∃ x : ℝ, Ideal.ofBits .f32 0x3E000000#32 = x :=
  ⟨_, (EReal.coe_toReal (by simp [Ideal.ofBits, Ideal.ieee, -EReal.coe_mul]) (by simp [Ideal.ofBits, Ideal.ieee, -EReal.coe_mul])).symm⟩

/-- The score of a key before the sequence is real. -/
theorem masked_finite : ∃ x : ℝ, Ideal.ofBits .f32 0xF149F2CA#32 = x :=
  ⟨_, (EReal.coe_toReal (by simp [Ideal.ofBits, Ideal.ieee, -EReal.coe_mul]) (by simp [Ideal.ofBits, Ideal.ieee, -EReal.coe_mul])).symm⟩

/-- The scores are real when queries, keys and biases are. -/
theorem headScore_finite (n : ℕ) (q : Fin 64 → EReal) (k : Fin 576 → Fin 64 → EReal) (b : Fin 576 → EReal) (hq : ∀ d, ∃ x : ℝ, q d = x)
    (hk : ∀ j d, ∃ x : ℝ, k j d = x) (hb : ∀ j, ∃ x : ℝ, b j = x) (j : Fin 576) : ∃ x : ℝ, headScore n q k b j = x := by
  unfold headScore
  split
  · exact add_finite (mul_finite (sum_finite _ fun d => mul_finite (hq d) (hk j d)) scale_finite) (hb j)
  · exact masked_finite

/-- The whole row: lane `l` belongs to head `l / 64`. -/
def rowOut (n : ℕ) (q : Fin 512 → EReal) (k v : Fin 576 → Fin 512 → EReal) (b : Fin 8 → Fin 576 → EReal) (l : Fin 512) : EReal :=
  attend (headScore n (fun d => q ⟨64 * (l.val / 64) + d.val, by omega⟩) (fun j d => k j ⟨64 * (l.val / 64) + d.val, by omega⟩) (b ⟨l.val / 64, by omega⟩))
    (fun j => v j l)

/-- The row with each weight divided first. -/
def rowShare (n : ℕ) (q : Fin 512 → EReal) (k v : Fin 576 → Fin 512 → EReal) (b : Fin 8 → Fin 576 → EReal) (l : Fin 512) : EReal :=
  attendShare (headScore n (fun d => q ⟨64 * (l.val / 64) + d.val, by omega⟩) (fun j d => k j ⟨64 * (l.val / 64) + d.val, by omega⟩) (b ⟨l.val / 64, by omega⟩))
    (fun j => v j l)

/-- For real queries, keys and biases, dividing the weighted sum is the sum weighted by the divided weights. -/
theorem rowOut_eq_share (n : ℕ) (q : Fin 512 → EReal) (k v : Fin 576 → Fin 512 → EReal) (b : Fin 8 → Fin 576 → EReal) (hq : ∀ d, ∃ x : ℝ, q d = x)
    (hk : ∀ j d, ∃ x : ℝ, k j d = x) (hb : ∀ h j, ∃ x : ℝ, b h j = x) (l : Fin 512) : rowOut n q k v b l = rowShare n q k v b l :=
  attend_eq_share _ _ (headScore_finite _ _ _ _ (fun _ => hq _) (fun _ _ => hk _ _) fun _ => hb _ _)

end Cert.Layer

namespace Cert.KernelIdeal.Math

open Cert.KernelIdeal Cert.KernelIdeal.Gen Cert.Layer

/-- The mask of a tile's first head holds on the lower 64 lanes. -/
theorem low_at (r : Fin 64) (l : Fin 128) : k0_pay6 (ix2 r l) = if l.val < 64 then 1#1 else 0#1 := by
  pointwise [k0_pay6]
  word_cmp
  by_cases h : l.val < 64 <;> simp [h]

/-- The mask of the keys that lie within the sequence. -/
theorem valid_at (i : grid0.Coords) (r : Fin 64) (j : Fin 576) :
    k0_pay5 i (ix2 r j) = if 512 - (i 1).val * 64 ≤ j.val then 1#1 else 0#1 := by
  have hi : (i 1).val < 64 := (i 1).isLt
  have hj := j.isLt
  pointwise [k0_pay5]
  have hall : ∀ n : Fin 64, (512#32 - BitVec.ofNat 32 n.val * 64#32).toInt = 512 - (n.val : Int) * 64 := by decide +kernel
  have hs : (Scalar.subi 512#32 (Scalar.muli (BitVec.ofNat 32 (i 1).val) 64#32)).toInt = 512 - ((i 1).val : Int) * 64 :=
    hall ⟨(i 1).val, hi⟩
  have hl : (BitVec.ofNat 32 j.val).toInt = j.val := by
    rw [BitVec.toInt_ofNat']; simp only [Int.bmod_def]; omega
  show BitVec.ofBool ((Scalar.subi 512#32 (Scalar.muli (BitVec.ofNat 32 (i 1).val) 64#32)).sle (BitVec.ofNat 32 j.val)) = _
  rw [BitVec.sle_eq_decide, hs, hl]
  by_cases h : 512 - (i 1).val * 64 ≤ j.val
  · rw [if_pos h, decide_eq_true (by omega)]; rfl
  · rw [if_neg h, decide_eq_false (by omega)]; rfl

/-- The first pair of heads. -/
theorem tile0_at (i : grid0.Coords) (v2 : Vec Ideal S1x64x512 .bf16) (v5 v8 : Vec Ideal S1x576x512 .bf16)
    (v26 v48 : Vec Ideal S1x64x576 .f32) (r : Fin 64) (l : Fin 128) :
    k0_pay12 (F := Ideal) (k0_pay5 i) k0_pay6 (k0_pay7 v2) (k0_pay8 v5) (k0_pay9 v8) (k0_pay10 i v2 v5 v26) (k0_pay11 i v2 v5 v26) v48 (ix2 r l)
      = if l.val < 64 then
          attend (headScore (512 - (i 1).val * 64) (fun d => v2 (ix3 0 r ⟨d.val, by omega⟩)) (fun j d => v5 (ix3 0 j ⟨d.val, by omega⟩)) (fun j => v26 (ix3 0 r j)))
            (fun j => v8 (ix3 0 j ⟨l.val, by omega⟩))
        else
          attend (headScore (512 - (i 1).val * 64) (fun d => v2 (ix3 0 r ⟨64 + d.val, by omega⟩)) (fun j d => v5 (ix3 0 j ⟨64 + d.val, by omega⟩)) (fun j => v48 (ix3 0 r j)))
            (fun j => v8 (ix3 0 j ⟨l.val, by omega⟩)) := by
  pointwise [k0_pay12, k0_pay11, k0_pay10, k0_pay9, k0_pay8, k0_pay7, k0_pay4, k0_pay3, k0_pay2]
  simp only [low_at, valid_at, select_word, xor_word, sum_low, sum_high]
  rfl

/-- The second pair of heads. -/
theorem tile1_at (i : grid0.Coords) (v2 : Vec Ideal S1x64x512 .bf16) (v5 v8 : Vec Ideal S1x576x512 .bf16)
    (b0 b1 : Vec Ideal S1x64x576 .f32) (r : Fin 64) (l : Fin 128) :
    k0_pay17 (F := Ideal) (k0_pay5 i) k0_pay6 (k0_pay13 (k0_pay2 v2)) (k0_pay14 (k0_pay3 v5)) (k0_pay15 (k0_pay4 v8)) (k0_pay16 (k0_pay2 v2) (k0_pay3 v5) (k0_pay5 i) k0_pay6 b0) b1 (ix2 r l)
      = if l.val < 64 then
          attend (headScore (512 - (i 1).val * 64) (fun d => v2 (ix3 0 r ⟨128 + d.val, by omega⟩)) (fun j d => v5 (ix3 0 j ⟨128 + d.val, by omega⟩)) (fun j => b0 (ix3 0 r j)))
            (fun j => v8 (ix3 0 j ⟨128 + l.val, by omega⟩))
        else
          attend (headScore (512 - (i 1).val * 64) (fun d => v2 (ix3 0 r ⟨128 + (64 + d.val), by omega⟩)) (fun j d => v5 (ix3 0 j ⟨128 + (64 + d.val), by omega⟩)) (fun j => b1 (ix3 0 r j)))
            (fun j => v8 (ix3 0 j ⟨128 + l.val, by omega⟩)) := by
  pointwise [k0_pay17, k0_pay16, k0_pay15, k0_pay14, k0_pay13, k0_pay4, k0_pay3, k0_pay2]
  simp only [low_at, valid_at, select_word, xor_word, sum_low, sum_high]
  rfl

/-- The third pair of heads. -/
theorem tile2_at (i : grid0.Coords) (v2 : Vec Ideal S1x64x512 .bf16) (v5 v8 : Vec Ideal S1x576x512 .bf16)
    (b0 b1 : Vec Ideal S1x64x576 .f32) (r : Fin 64) (l : Fin 128) :
    k0_pay22 (F := Ideal) (k0_pay5 i) k0_pay6 (k0_pay18 (k0_pay2 v2)) (k0_pay19 (k0_pay3 v5)) (k0_pay20 (k0_pay4 v8)) (k0_pay21 (k0_pay2 v2) (k0_pay3 v5) k0_pay6) b0 b1 (ix2 r l)
      = if l.val < 64 then
          attend (headScore (512 - (i 1).val * 64) (fun d => v2 (ix3 0 r ⟨256 + d.val, by omega⟩)) (fun j d => v5 (ix3 0 j ⟨256 + d.val, by omega⟩)) (fun j => b0 (ix3 0 r j)))
            (fun j => v8 (ix3 0 j ⟨256 + l.val, by omega⟩))
        else
          attend (headScore (512 - (i 1).val * 64) (fun d => v2 (ix3 0 r ⟨256 + (64 + d.val), by omega⟩)) (fun j d => v5 (ix3 0 j ⟨256 + (64 + d.val), by omega⟩)) (fun j => b1 (ix3 0 r j)))
            (fun j => v8 (ix3 0 j ⟨256 + l.val, by omega⟩)) := by
  pointwise [k0_pay22, k0_pay21, k0_pay20, k0_pay19, k0_pay18, k0_pay4, k0_pay3, k0_pay2]
  simp only [low_at, valid_at, select_word, xor_word, sum_low, sum_high]
  rfl

/-- The first head of the last pair. -/
theorem head6_at (i : grid0.Coords) (v2 : Vec Ideal S1x64x512 .bf16) (v5 v8 : Vec Ideal S1x576x512 .bf16)
    (b0 : Vec Ideal S1x64x576 .f32) (r : Fin 64) (l : Fin 128) :
    k0_pay27 (F := Ideal) (k0_pay5 i) k0_pay6 (k0_pay23 (k0_pay2 v2)) (k0_pay24 (k0_pay3 v5)) (k0_pay25 (k0_pay4 v8)) k0_pay26 b0 (ix2 r l)
      = attend (headScore (512 - (i 1).val * 64) (fun d => v2 (ix3 0 r ⟨384 + d.val, by omega⟩)) (fun j d => v5 (ix3 0 j ⟨384 + d.val, by omega⟩)) (fun j => b0 (ix3 0 r j))) (fun j => v8 (ix3 0 j ⟨384 + l.val, by omega⟩)) := by
  pointwise [k0_pay27, k0_pay26, k0_pay25, k0_pay24, k0_pay23, k0_pay4, k0_pay3, k0_pay2]
  simp only [low_at, valid_at, select_word, xor_word, sum_low, sum_high]
  rfl

/-- The weights of the last head. -/
theorem weight7_at (i : grid0.Coords) (v2 : Vec Ideal S1x64x512 .bf16) (v5 : Vec Ideal S1x576x512 .bf16)
    (b0 : Vec Ideal S1x64x576 .f32) (r : Fin 64) (j : Fin 576) :
    k0_pay28 (F := Ideal) (k0_pay5 i) k0_pay6 (k0_pay23 (k0_pay2 v2)) (k0_pay24 (k0_pay3 v5)) b0 (ix2 r j)
      = softWeight (headScore (512 - (i 1).val * 64) (fun d => v2 (ix3 0 r ⟨384 + (64 + d.val), by omega⟩)) (fun j d => v5 (ix3 0 j ⟨384 + (64 + d.val), by omega⟩)) (fun j => b0 (ix3 0 r j))) j := by
  pointwise [k0_pay28, k0_pay24, k0_pay23, k0_pay3, k0_pay2]
  simp only [low_at, valid_at, select_word, xor_word, sum_low, sum_high]
  rfl

/-- The sum of the last head's weights. -/
theorem total7_at (i : grid0.Coords) (v2 : Vec Ideal S1x64x512 .bf16) (v5 : Vec Ideal S1x576x512 .bf16)
    (b0 : Vec Ideal S1x64x576 .f32) (r : Fin 64) :
    k0_pay29 (F := Ideal) (k0_pay5 i) k0_pay6 (k0_pay23 (k0_pay2 v2)) (k0_pay24 (k0_pay3 v5)) b0 (ix2 r 0)
      = ∑ j, softWeight (headScore (512 - (i 1).val * 64) (fun d => v2 (ix3 0 r ⟨384 + (64 + d.val), by omega⟩)) (fun j d => v5 (ix3 0 j ⟨384 + (64 + d.val), by omega⟩)) (fun j => b0 (ix3 0 r j))) j := by
  pointwise [k0_pay29]
  simp only [weight7_at]

/-- The weighted sum of the values in the last head, not yet divided. -/
theorem mixed7_at (i : grid0.Coords) (v2 : Vec Ideal S1x64x512 .bf16) (v5 v8 : Vec Ideal S1x576x512 .bf16)
    (b0 : Vec Ideal S1x64x576 .f32) (r : Fin 64) (l : Fin 128) :
    k0_pay30 (F := Ideal) (k0_pay5 i) k0_pay6 (k0_pay23 (k0_pay2 v2)) (k0_pay24 (k0_pay3 v5)) (k0_pay25 (k0_pay4 v8)) b0 (ix2 r l)
      = ∑ j, softWeight (headScore (512 - (i 1).val * 64) (fun d => v2 (ix3 0 r ⟨384 + (64 + d.val), by omega⟩)) (fun j d => v5 (ix3 0 j ⟨384 + (64 + d.val), by omega⟩)) (fun j => b0 (ix3 0 r j))) j * v8 (ix3 0 j ⟨384 + l.val, by omega⟩) := by
  pointwise [k0_pay30, k0_pay25, k0_pay4]
  simp only [weight7_at]

/-- The first pair of heads lies in lanes 0 to 127. -/
theorem join0_at (w : IVec S64x128 1) (t0 t1 t2 z n : Vec Ideal S64x128 .f32) (d : Vec Ideal S64x1 .f32) (r : Fin 64) (l : Fin 128) :
    k0_pay1 (F := Ideal) w t0 t1 t2 z d n (ix3 0 r ⟨l.val, by omega⟩) = t0 (ix2 r l) := by
  pointwise [k0_pay1]

/-- The second pair of heads lies in lanes 128 to 255. -/
theorem join1_at (w : IVec S64x128 1) (t0 t1 t2 z n : Vec Ideal S64x128 .f32) (d : Vec Ideal S64x1 .f32) (r : Fin 64) (l : Fin 128) :
    k0_pay1 (F := Ideal) w t0 t1 t2 z d n (ix3 0 r ⟨128 + l.val, by omega⟩) = t1 (ix2 r l) := by
  pointwise [k0_pay1]

/-- The third pair of heads lies in lanes 256 to 383. -/
theorem join2_at (w : IVec S64x128 1) (t0 t1 t2 z n : Vec Ideal S64x128 .f32) (d : Vec Ideal S64x1 .f32) (r : Fin 64) (l : Fin 128) :
    k0_pay1 (F := Ideal) w t0 t1 t2 z d n (ix3 0 r ⟨256 + l.val, by omega⟩) = t2 (ix2 r l) := by
  pointwise [k0_pay1]
  rw [dif_neg (by omega), dif_neg (by omega), dif_pos (by omega)]
  exact congrArg t2 (congrArg (ix2 r) (Fin.ext (by show 256 + l.val - 128 - 128 = l.val; omega)))

/-- The last pair of heads lies in lanes 384 to 511. -/
theorem join3_at (w : IVec S64x128 1) (t0 t1 t2 z n : Vec Ideal S64x128 .f32) (d : Vec Ideal S64x1 .f32) (r : Fin 64) (l : Fin 128) :
    k0_pay1 (F := Ideal) w t0 t1 t2 z d n (ix3 0 r ⟨384 + l.val, by omega⟩)
      = Scalar.select (w (ix2 r l)) (z (ix2 r l)) (Ideal.div (n (ix2 r l)) (d (ix2 r 0))) := by
  have e : (⟨384 + l.val - 128 - 128 - 128, by omega⟩ : Fin 128) = l := Fin.ext (by show 384 + l.val - 128 - 128 - 128 = l.val; omega)
  pointwise [k0_pay1]
  rw [dif_neg (by omega), dif_neg (by omega), dif_neg (by omega)]
  simp only [e]

/-- A row of the result at a lane of a given head. -/
theorem rowOut_at (n : ℕ) (q : Fin 512 → EReal) (k v : Fin 576 → Fin 512 → EReal) (b : Fin 8 → Fin 576 → EReal) (l : Fin 512) (h : ℕ) (hh : h < 8)
    (hl : l.val / 64 = h) (off : Fin 64 → Fin 512) (hoff : ∀ d, (off d).val = 64 * h + d.val) :
    attend (headScore n (fun d => q (off d)) (fun j d => k j (off d)) (b ⟨h, hh⟩)) (fun j => v j l) = rowOut n q k v b l := by
  subst hl
  have : off = fun d => ⟨64 * (l.val / 64) + d.val, by omega⟩ := funext fun d => Fin.ext (hoff d)
  subst this
  rfl

set_option maxHeartbeats 400000 in
/-- The block a grid point stores, at a row and a lane. -/
theorem out_at (c : Dev nD) (i : grid0.Coords) (m2 : Memref sig .tc .vmem S1x64x512 .bf16) (h2 : m2.IsWhole) (m3 : Memref sig .tc .vmem S1x4608x512 .bf16) (h3 : m3.IsWhole)
    (m4 : Memref sig .tc .vmem S1x4608x512 .bf16) (h4 : m4.IsWhole) (m5 : Memref sig .tc .vmem S8x64x576 .f32) (h5 : m5.IsWhole) (m6 : Memref sig .tc .vmem S1x64x512 .bf16) (h6 : m6.IsWhole)
    (q : Vec Ideal S1x64x512 .bf16) (k v : Vec Ideal S1x4608x512 .bf16) (b : Vec Ideal S8x64x576 .f32) (r : Fin 64) (l : Fin 512) :
    out0_A_4 (F := Ideal) c i m2 h2 m3 h3 m4 h4 m5 h5 m6 h6 q k v b (ix3 0 r l)
      = rowOut (512 - (i 1).val * 64) (fun d => q (ix3 0 r d))
          (fun j d => k (ix3 0 ⟨(i 1).val * 64 + j.val, by have : (i 1).val < 64 := (i 1).isLt; omega⟩ d))
          (fun j d => v (ix3 0 ⟨(i 1).val * 64 + j.val, by have : (i 1).val < 64 := (i 1).isLt; omega⟩ d))
          (fun h j => b (ix3 h r j)) l := by
  have hi : (i 1).val < 64 := (i 1).isLt
  frame_out
  have hld : ∀ (x : Vec Ideal S1x4608x512 .bf16) (hb) (j : Fin 576) (d : Fin 512),
      View.ld x (Rect.unit (k0_off1 i) ![1, 576, 512] hb) (ix3 0 j d) = x (ix3 0 ⟨(i 1).val * 64 + j.val, by omega⟩ d) := by
    intro x hb j d
    have ho : k0_off1 i 1 = (i 1).val * 64 := by
      have hall : ∀ n : Fin 64, (Scalar.indexCast (Scalar.muli (BitVec.ofNat 32 n.val) 64#32)).toNat = n.val * 64 := by decide +kernel
      exact hall ⟨(i 1).val, hi⟩
    refine View.ld_unit_apply_of x _ _ hb _ _ fun a => ?_
    fin_cases a
    · rfl
    · show (i 1).val * 64 + j.val = k0_off1 i 1 + j.val
      rw [ho]
    · show d.val = 0 + d.val
      omega
  have hb : ∀ (o : ℕ) (ho : o < 8) (hb) (j : Fin 576), View.ld b (Rect.unit ![o, 0, 0] ![1, 64, 576] hb) (ix3 0 r j) = b (ix3 ⟨o, ho⟩ r j) := by
    intro o ho hb j
    refine View.ld_unit_apply_of b _ _ hb _ _ fun a => ?_
    fin_cases a
    · rfl
    · show r.val = 0 + r.val
      omega
    · show j.val = 0 + j.val
      omega
  generalize hK : View.ld k (Rect.unit (k0_off1 i) _ _) = K
  generalize hV : View.ld v (Rect.unit (k0_off1 i) _ _) = V
  have hKat : ∀ (j : Fin 576) (d : Fin 512), K (ix3 0 j d) = k (ix3 0 ⟨(i 1).val * 64 + j.val, by omega⟩ d) := by
    intro j d
    rw [← hK]
    exact hld k _ j d
  have hVat : ∀ (j : Fin 576) (d : Fin 512), V (ix3 0 j d) = v (ix3 0 ⟨(i 1).val * 64 + j.val, by omega⟩ d) := by
    intro j d
    rw [← hV]
    exact hld v _ j d
  have key := rowOut_at (512 - (i 1).val * 64) (fun d => q (ix3 0 r d)) (fun j d => k (ix3 0 ⟨(i 1).val * 64 + j.val, by omega⟩ d)) (fun j d => v (ix3 0 ⟨(i 1).val * 64 + j.val, by omega⟩ d)) (fun h j => b (ix3 h r j))
  obtain ⟨p, hp⟩ : ∃ p : Fin 128, l.val % 128 = p.val := ⟨⟨l.val % 128, by omega⟩, rfl⟩
  obtain hc | hc | hc | hc : l.val / 128 = 0 ∨ l.val / 128 = 1 ∨ l.val / 128 = 2 ∨ l.val / 128 = 3 := by omega
  · obtain rfl : l = ⟨p.val, Nat.lt_of_lt_of_le p.isLt (by decide)⟩ := Fin.ext (by show l.val = p.val; omega)
    rw [join0_at, tile0_at]
    split
    · simp only [hKat, hVat, hb 0 (by decide)]
      exact key _ 0 (by omega) (by show (p.val) / 64 = 0; omega) (fun d => ⟨d.val, by omega⟩) (fun d => by show d.val = 64 * 0 + d.val; omega)
    · simp only [hKat, hVat, hb 1 (by decide)]
      exact key _ 1 (by omega) (by show (p.val) / 64 = 1; omega) (fun d => ⟨64 + d.val, by omega⟩) (fun d => by show 64 + d.val = 64 * 1 + d.val; omega)
  · obtain rfl : l = ⟨128 + p.val, Nat.lt_of_lt_of_le (Nat.add_lt_add_left p.isLt 128) (by decide)⟩ := Fin.ext (by show l.val = 128 + p.val; omega)
    rw [join1_at, tile1_at]
    split
    · simp only [hKat, hVat, hb 2 (by decide)]
      exact key _ 2 (by omega) (by show (128 + p.val) / 64 = 2; omega) (fun d => ⟨128 + d.val, by omega⟩) (fun d => by show 128 + d.val = 64 * 2 + d.val; omega)
    · simp only [hKat, hVat, hb 3 (by decide)]
      exact key _ 3 (by omega) (by show (128 + p.val) / 64 = 3; omega) (fun d => ⟨128 + (64 + d.val), by omega⟩) (fun d => by show 128 + (64 + d.val) = 64 * 3 + d.val; omega)
  · obtain rfl : l = ⟨256 + p.val, Nat.lt_of_lt_of_le (Nat.add_lt_add_left p.isLt 256) (by decide)⟩ := Fin.ext (by show l.val = 256 + p.val; omega)
    rw [join2_at, tile2_at]
    split
    · simp only [hKat, hVat, hb 4 (by decide)]
      exact key _ 4 (by omega) (by show (256 + p.val) / 64 = 4; omega) (fun d => ⟨256 + d.val, by omega⟩) (fun d => by show 256 + d.val = 64 * 4 + d.val; omega)
    · simp only [hKat, hVat, hb 5 (by decide)]
      exact key _ 5 (by omega) (by show (256 + p.val) / 64 = 5; omega) (fun d => ⟨256 + (64 + d.val), by omega⟩) (fun d => by show 256 + (64 + d.val) = 64 * 5 + d.val; omega)
  · obtain rfl : l = ⟨384 + p.val, Nat.lt_of_lt_of_le (Nat.add_lt_add_left p.isLt 384) (by decide)⟩ := Fin.ext (by show l.val = 384 + p.val; omega)
    rw [join3_at, head6_at, mixed7_at, total7_at, low_at, select_word]
    split
    · simp only [hKat, hVat, hb 6 (by decide)]
      exact key _ 6 (by omega) (by show (384 + p.val) / 64 = 6; omega) (fun d => ⟨384 + d.val, by omega⟩) (fun d => by show 384 + d.val = 64 * 6 + d.val; omega)
    · simp only [hKat, hVat, hb 7 (by decide)]
      exact key _ 7 (by omega) (by show (384 + p.val) / 64 = 7; omega) (fun d => ⟨384 + (64 + d.val), by omega⟩) (fun d => by show 384 + (64 + d.val) = 64 * 7 + d.val; omega)

end Cert.KernelIdeal.Math
-- ==== Proof.BandRef.lean ====
/- The reference's banded attention, read at an index. -/
module

public import proofs.«01_k».proof.Proof.BandMath
public import proofs.«01_k».proof.Proof.Gen.ReferenceIdeal.Run

@[expose] public section

set_option maxRecDepth 16384

noncomputable section

open Idealize.ShloMosaic Idealize.ShloMosaic.TcCoe Idealize.SL.Sem
open Idealize.ShloMosaic.Pipeline (Dat)

namespace Cert.ReferenceIdeal.Math

open Cert.ReferenceIdeal Cert.ReferenceIdeal.Gen Cert.Layer

/-- A sequence split into its eight heads. -/
def heads (x : FVec Ideal S8x4096x512 .bf16) : FVec Ideal S8x8x4096x64 .f32 :=
  transpose S8x8x4096x64 [0, 2, 1, 3] (shapeCast _ (extf .f32 x bitsLt_bf16_f32) shapeCasts_S8x4096x512_S8x4096x8x64) transposes_S8x4096x8x64_S8x8x4096x64_0_2_1_3

/-- The heads with 512 rows of zeros before them. -/
def padded (x : FVec Ideal S8x4096x512 .bf16) : FVec Ideal S8x8x4608x64 .f32 :=
  pad S8x8x4608x64 ![0, 0, 512, 0] ![0, 0, 0, 0] ![0, 0, 0, 0] (heads x) (sitofp .f32 (constantI S_ 32 0#32)) pads_S8x8x4096x64_S8x8x4608x64_000_000_51200_000 h_S_

/-- Where each chunk's slice starts. -/
def starts (n : BitVec 32) : IVec S64x4 32 :=
  ((concatenate S64x4 1 [⟨S64x1, ((broadcastInDim S64x1 ![] bcast_S_S64x1 (constantI S_ 32 0#32)) : (⟨S64x1, .i32⟩ : BufTy).Contents (Elt Ideal))⟩, ⟨S64x1, ((broadcastInDim S64x1 ![] bcast_S_S64x1 (constantI S_ 32 0#32)) : (⟨S64x1, .i32⟩ : BufTy).Contents (Elt Ideal))⟩, ⟨S64x1, ((broadcastInDim S64x1 ![0] bcast_S64_S64x1_0 (select (cmpi .slt (muli (iotaInDim S64 32 0) (broadcastInDim S64 ![] bcast_S_S64 (constantI S_ 32 64#32))) (broadcastInDim S64 ![] bcast_S_S64 (constantI S_ 32 0#32))) (addi (muli (iotaInDim S64 32 0) (broadcastInDim S64 ![] bcast_S_S64 (constantI S_ 32 64#32))) (broadcastInDim S64 ![] bcast_S_S64 (constantI S_ 32 n))) (muli (iotaInDim S64 32 0) (broadcastInDim S64 ![] bcast_S_S64 (constantI S_ 32 64#32))))) : (⟨S64x1, .i32⟩ : BufTy).Contents (Elt Ideal))⟩, ⟨S64x1, ((broadcastInDim S64x1 ![] bcast_S_S64x1 (constantI S_ 32 0#32)) : (⟨S64x1, .i32⟩ : BufTy).Contents (Elt Ideal))⟩] concatenates_S64x1_S64x1_S64x1_S64x1_S64x4_d1 : (⟨S64x4, .i32⟩ : BufTy).Contents (Elt Ideal)))

/-- The relative bias of each head, query row and key row. -/
def bias (rel : FVec Ideal S8x257 .f32) : FVec Ideal S8x64x576 .f32 :=
  Host.gather gather_S8x257_S64x576x1_S8x64x576_0_1_n_n_1_2_81 rel (broadcastInDim S64x576x1 ![0, 1] bcast_S64x576_S64x576x1_0_1 (select (cmpi .slt (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))) (broadcastInDim S64x576 ![] bcast_S_S64x576 (constantI S_ 32 0#32))) (addi (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))) (broadcastInDim S64x576 ![] bcast_S_S64x576 (constantI S_ 32 257#32))) (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32)))))

/-- The masked scores. -/
def scores (q k : FVec Ideal S8x4096x512 .bf16) (rel : FVec Ideal S8x257 .f32) : FVec Ideal S64x8x8x64x576 .f32 :=
  (select (broadcastInDim S64x8x8x64x576 ![0, 4] bcast_S64x576_S64x8x8x64x576_0_4 (cmpi .sge (addi (broadcastInDim S64x576 ![0, 1] bcast_S64x1_S64x576_0_1 (broadcastInDim S64x1 ![0] bcast_S64_S64x1_0 (subi (muli (iotaInDim S64 32 0) (broadcastInDim S64 ![] bcast_S_S64 (constantI S_ 32 64#32))) (broadcastInDim S64 ![] bcast_S_S64 (constantI S_ 32 512#32))))) (broadcastInDim S64x576 ![0, 1] bcast_S1x576_S64x576_0_1 (broadcastInDim S1x576 ![1] bcast_S576_S1x576_1 (iotaInDim S576 32 0)))) (broadcastInDim S64x576 ![] bcast_S_S64x576 (constantI S_ 32 0#32)))) (addf (mulf (Host.dotGeneral dot_S64x8x8x64x64_S64x8x8x576x64_S64x8x8x64x576_4_4_3_3_012_012 none (Host.gather gather_S8x8x4096x64_S64x4_S64x8x8x64x64_1234_n_n_n_0123_1_886464 (heads q) (starts 4096#32)) (Host.gather gather_S8x8x4608x64_S64x4_S64x8x8x576x64_1234_n_n_n_0123_1_8857664 (padded k) (starts 4608#32))) (broadcastInDim S64x8x8x64x576 ![] bcast_S_S64x8x8x64x576 (constant S_ .f32 0x3E000000#32))) (broadcastInDim S64x8x8x64x576 ![0, 1, 2, 3, 4] bcast_S1x1x8x64x576_S64x8x8x64x576_0_1_2_3_4 (broadcastInDim S1x1x8x64x576 ![1, 2, 3, 4] bcast_S1x8x64x576_S1x1x8x64x576_1_2_3_4 (broadcastInDim S1x8x64x576 ![1, 2, 3] bcast_S8x64x576_S1x8x64x576_1_2_3 (bias rel))))) (broadcastInDim S64x8x8x64x576 ![1, 2, 3, 4] bcast_S8x8x64x576_S64x8x8x64x576_1_2_3_4 (broadcastInDim S8x8x64x576 ![] bcast_S_S8x8x64x576 (id (constant S_ .f32 0xF149F2CA#32)))))

/-- A row's weights before they are divided by their sum. -/
def weightsOf (x : FVec Ideal S64x8x8x64x576 .f32) : FVec Ideal S64x8x8x64x576 .f32 :=
  (Host.exp (subf x (broadcastInDim S64x8x8x64x576 ![0, 1, 2, 3, 4] bcast_S64x8x8x64x1_S64x8x8x64x576_0_1_2_3_4 (broadcastInDim S64x8x8x64x1 ![0, 1, 2, 3] bcast_S64x8x8x64_S64x8x8x64x1_0_1_2_3 (maximumf (broadcastInDim S64x8x8x64 ![] bcast_S_S64x8x8x64 (constant S_ .f32 0xFF800000#32)) (Host.reduce FloatOps.maximumf x (constant S_ .f32 0xFF800000#32) reducesTo_S64x8x8x64x576_S64x8x8x64_d4 h_S_))))))

/-- The weights of the masked scores. -/
def weights (q k : FVec Ideal S8x4096x512 .bf16) (rel : FVec Ideal S8x257 .f32) : FVec Ideal S64x8x8x64x576 .f32 :=
  weightsOf (scores q k rel)

/-- The band attention. -/
def result (q k v : FVec Ideal S8x4096x512 .bf16) (rel : FVec Ideal S8x257 .f32) : FVec Ideal S8x4096x512 .bf16 :=
  truncf .bf16 (shapeCast _ (transpose S8x64x64x8x64 [1, 0, 3, 2, 4] (Host.dotGeneral dot_S64x8x8x64x576_S64x8x8x576x64_S64x8x8x64x64_4_3_3_4_012_012 none (Host.divf (weights q k rel) (broadcastInDim S64x8x8x64x576 ![0, 1, 2, 3, 4] bcast_S64x8x8x64x1_S64x8x8x64x576_0_1_2_3_4 (broadcastInDim S64x8x8x64x1 ![0, 1, 2, 3] bcast_S64x8x8x64_S64x8x8x64x1_0_1_2_3 (Host.reduceAdd (weights q k rel) (constant S_ .f32 0x00000000#32) reducesTo_S64x8x8x64x576_S64x8x8x64_d4 h_S_)))) (Host.gather gather_S8x8x4608x64_S64x4_S64x8x8x576x64_1234_n_n_n_0123_1_8857664 (padded v) (starts 4608#32))) transposes_S64x8x8x64x64_S8x64x64x8x64_1_0_3_2_4) shapeCasts_S8x64x64x8x64_S8x4096x512) bitsLt_bf16_f32

/-- The split into heads. -/
theorem heads_at (x : FVec Ideal S8x4096x512 .bf16) (b h : Fin 8) (s : Fin 4096) (d : Fin 64) :
    heads x (ix4 b h s d) = x (ix3 b s ⟨64 * h.val + d.val, by omega⟩) := by
  pointwise [heads]
  exact congrArg (fun a => x (ix3 b s a)) (Fin.ext (by show h.val * 64 + d.val = 64 * h.val + d.val; omega))

/-- The split into heads behind 512 rows of zeros. -/
theorem padded_at (x : FVec Ideal S8x4096x512 .bf16) (b h : Fin 8) (s : Fin 4608) (d : Fin 64) :
    padded x (ix4 b h s d) = if hs : 512 ≤ s.val then x (ix3 b ⟨s.val - 512, by omega⟩ ⟨64 * h.val + d.val, by omega⟩) else 0 := by
  pointwise [padded]
  by_cases hs : 512 ≤ s.val
  · rw [dif_pos ⟨hs, by omega⟩, dif_pos hs, heads_at]
  · rw [dif_neg (fun h => hs h.1), dif_neg hs]
    show (((0#32 : BitVec 32).toInt : ℝ) : EReal) = 0
    simp

/-- The start words of a chunk. -/
theorem starts_at (n : BitVec 32) (c : Fin 64) :
    starts n (ix2 c 0) = 0#32 ∧ starts n (ix2 c 1) = 0#32 ∧ starts n (ix2 c 2) = BitVec.ofNat 32 (c.val * 64) ∧ starts n (ix2 c 3) = 0#32 := by
  refine ⟨?_, ?_, ?_, ?_⟩
  · pointwise [starts]
  · pointwise [starts]
  · pointwise [starts]
    have hall : ∀ c : Fin 64, ∀ n, Scalar.select (IntOp.cmpi CmpIPredicate.slt (IntOp.muli (BitVec.ofNat 32 c.val) 64#32) 0#32)
        (IntOp.addi (IntOp.muli (BitVec.ofNat 32 c.val) 64#32) n) (IntOp.muli (BitVec.ofNat 32 c.val) 64#32) = BitVec.ofNat 32 (c.val * 64) := by
      intro c n
      have h1 : ∀ c : Fin 64, IntOp.cmpi CmpIPredicate.slt (IntOp.muli (BitVec.ofNat 32 c.val) 64#32) 0#32 = 0#1 := by decide +kernel
      have h2 : ∀ c : Fin 64, IntOp.muli (BitVec.ofNat 32 c.val) 64#32 = BitVec.ofNat 32 (c.val * 64) := by decide +kernel
      rw [h1, h2]
      rfl
    exact hall c n
  · pointwise [starts]

/-- The 576 keys a chunk reads from its start. -/
theorem slice_at (x : FVec Ideal S8x8x4608x64 .f32) (idx : IVec S64x4 32) (c : Fin 64) (h0 : idx (ix2 c 0) = 0#32) (h1 : idx (ix2 c 1) = 0#32)
    (h2 : idx (ix2 c 2) = BitVec.ofNat 32 (c.val * 64)) (h3 : idx (ix2 c 3) = 0#32) (b h : Fin 8) (j : Fin 576) (d : Fin 64) :
    Host.gather gather_S8x8x4608x64_S64x4_S64x8x8x576x64_1234_n_n_n_0123_1_8857664 x idx (ix5 c b h j d) = x (ix4 b h ⟨c.val * 64 + j.val, by omega⟩ d) := by
  unfold Host.gather
  congr 1
  have hc : (BitVec.ofNat 32 (c.val * 64)).toInt.toNat = c.val * 64 := by
    have : ∀ c : Fin 64, (BitVec.ofNat 32 (c.val * 64)).toInt.toNat = c.val * 64 := by decide +kernel
    exact this c
  have hs : ∀ (k : Fin 4) (hk), GatherDims.siIdx gather_S8x8x4608x64_S64x4_S64x8x8x576x64_1234_n_n_n_0123_1_8857664 (ix5 c b h j d) ⟨k.val, hk⟩ = ix2 c k := by
    intro k hk
    funext a
    refine Fin.ext ?_
    match a with
    | ⟨0, _⟩ => rfl
    | ⟨1, _⟩ => rfl
  funext a
  refine Fin.ext ?_
  match a with
  | ⟨0, _⟩ =>
    show min (idx (GatherDims.siIdx gather_S8x8x4608x64_S64x4_S64x8x8x576x64_1234_n_n_n_0123_1_8857664 (ix5 c b h j d) ⟨(0 : Fin 4).val, by decide⟩)).toInt.toNat 0 + 0 + b.val = b.val
    rw [hs, h0]
    simp
  | ⟨1, _⟩ =>
    show min (idx (GatherDims.siIdx gather_S8x8x4608x64_S64x4_S64x8x8x576x64_1234_n_n_n_0123_1_8857664 (ix5 c b h j d) ⟨(1 : Fin 4).val, by decide⟩)).toInt.toNat 0 + 0 + h.val = h.val
    rw [hs, h1]
    simp
  | ⟨2, _⟩ =>
    show min (idx (GatherDims.siIdx gather_S8x8x4608x64_S64x4_S64x8x8x576x64_1234_n_n_n_0123_1_8857664 (ix5 c b h j d) ⟨(2 : Fin 4).val, by decide⟩)).toInt.toNat (4608 - 576) + 0 + j.val = c.val * 64 + j.val
    rw [hs, h2, hc]
    omega
  | ⟨3, _⟩ =>
    show min (idx (GatherDims.siIdx gather_S8x8x4608x64_S64x4_S64x8x8x576x64_1234_n_n_n_0123_1_8857664 (ix5 c b h j d) ⟨(3 : Fin 4).val, by decide⟩)).toInt.toNat 0 + 0 + d.val = d.val
    rw [hs, h3]
    simp

/-- The 64 queries of a chunk. -/
theorem sliceQ_at (x : FVec Ideal S8x8x4096x64 .f32) (idx : IVec S64x4 32) (c : Fin 64) (h0 : idx (ix2 c 0) = 0#32) (h1 : idx (ix2 c 1) = 0#32)
    (h2 : idx (ix2 c 2) = BitVec.ofNat 32 (c.val * 64)) (h3 : idx (ix2 c 3) = 0#32) (b h : Fin 8) (j : Fin 64) (d : Fin 64) :
    Host.gather gather_S8x8x4096x64_S64x4_S64x8x8x64x64_1234_n_n_n_0123_1_886464 x idx (ix5 c b h j d) = x (ix4 b h ⟨c.val * 64 + j.val, by omega⟩ d) := by
  unfold Host.gather
  congr 1
  have hc : (BitVec.ofNat 32 (c.val * 64)).toInt.toNat = c.val * 64 := by
    have : ∀ c : Fin 64, (BitVec.ofNat 32 (c.val * 64)).toInt.toNat = c.val * 64 := by decide +kernel
    exact this c
  have hs : ∀ (k : Fin 4) (hk), GatherDims.siIdx gather_S8x8x4096x64_S64x4_S64x8x8x64x64_1234_n_n_n_0123_1_886464 (ix5 c b h j d) ⟨k.val, hk⟩ = ix2 c k := by
    intro k hk
    funext a
    refine Fin.ext ?_
    match a with
    | ⟨0, _⟩ => rfl
    | ⟨1, _⟩ => rfl
  funext a
  refine Fin.ext ?_
  match a with
  | ⟨0, _⟩ =>
    show min (idx (GatherDims.siIdx gather_S8x8x4096x64_S64x4_S64x8x8x64x64_1234_n_n_n_0123_1_886464 (ix5 c b h j d) ⟨(0 : Fin 4).val, by decide⟩)).toInt.toNat 0 + 0 + b.val = b.val
    rw [hs, h0]
    simp
  | ⟨1, _⟩ =>
    show min (idx (GatherDims.siIdx gather_S8x8x4096x64_S64x4_S64x8x8x64x64_1234_n_n_n_0123_1_886464 (ix5 c b h j d) ⟨(1 : Fin 4).val, by decide⟩)).toInt.toNat 0 + 0 + h.val = h.val
    rw [hs, h1]
    simp
  | ⟨2, _⟩ =>
    show min (idx (GatherDims.siIdx gather_S8x8x4096x64_S64x4_S64x8x8x64x64_1234_n_n_n_0123_1_886464 (ix5 c b h j d) ⟨(2 : Fin 4).val, by decide⟩)).toInt.toNat (4096 - 64) + 0 + j.val = c.val * 64 + j.val
    rw [hs, h2, hc]
    omega
  | ⟨3, _⟩ =>
    show min (idx (GatherDims.siIdx gather_S8x8x4096x64_S64x4_S64x8x8x64x64_1234_n_n_n_0123_1_886464 (ix5 c b h j d) ⟨(3 : Fin 4).val, by decide⟩)).toInt.toNat 0 + 0 + d.val = d.val
    rw [hs, h3]
    simp

/-- The query row, the key rows and the bias row the band of chunk `c` shows to a head. -/
def keyRow (x : FVec Ideal S8x4096x512 .bf16) (b : Fin 8) (n : ℕ) (j : Fin 576) (l : Fin 512) : EReal :=
  if hs : 512 ≤ n + j.val ∧ n + j.val < 4608 then x (ix3 b ⟨n + j.val - 512, by omega⟩ l) else 0

/-- The word that says that a key lies within the sequence. -/
theorem valid_word (c : Fin 64) (j : Fin 576) :
    IntOp.cmpi CmpIPredicate.sge (IntOp.addi (IntOp.subi (IntOp.muli (BitVec.ofNat 32 c.val) 64#32) 512#32) (BitVec.ofNat 32 j.val)) 0#32
      = if 512 - c.val * 64 ≤ j.val then 1#1 else 0#1 := by
  have hj := j.isLt
  have hc := c.isLt
  have hall : ∀ n : Fin 64, (BitVec.ofNat 32 n.val * 64#32 - 512#32).toInt = (n.val : Int) * 64 - 512 := by decide +kernel
  have hs : (BitVec.ofNat 32 c.val * 64#32 - 512#32 + BitVec.ofNat 32 j.val).toInt = (c.val : Int) * 64 - 512 + j.val := by
    have hl : (BitVec.ofNat 32 j.val).toInt = j.val := by
      rw [BitVec.toInt_ofNat']; simp only [Int.bmod_def]; omega
    rw [BitVec.toInt_add, hall, hl]
    simp only [Int.bmod_def]
    omega
  show BitVec.ofBool ((0#32).sle (BitVec.ofNat 32 c.val * 64#32 - 512#32 + BitVec.ofNat 32 j.val)) = _
  rw [BitVec.sle_eq_decide, hs]
  by_cases h : 512 - c.val * 64 ≤ j.val
  · rw [if_pos h, decide_eq_true (by show (0 : Int) ≤ _; omega)]; rfl
  · rw [if_neg h, decide_eq_false (by show ¬ (0 : Int) ≤ _; omega)]; rfl

/-- The scores. -/
theorem scores_at (q k : FVec Ideal S8x4096x512 .bf16) (rel : FVec Ideal S8x257 .f32) (c : Fin 64) (b h : Fin 8) (r : Fin 64) (j : Fin 576) :
    scores q k rel (ix5 c b h r j)
      = headScore (512 - c.val * 64) (fun d => q (ix3 b ⟨c.val * 64 + r.val, by omega⟩ ⟨64 * h.val + d.val, by omega⟩))
          (fun j d => keyRow k b (c.val * 64) j ⟨64 * h.val + d.val, by omega⟩) (fun j => bias rel (ix3 h r j)) j := by
  obtain ⟨q0, q1, q2, q3⟩ := starts_at 4096#32 c
  obtain ⟨k0, k1, k2, k3⟩ := starts_at 4608#32 c
  pointwise [scores]
  simp only [sliceQ_at _ _ c q0 q1 q2 q3, slice_at _ _ c k0 k1 k2 k3, heads_at, padded_at]
  have hk : ∀ l : Fin 512, (if h_1 : 512 ≤ c.val * 64 + j.val then k (ix3 b ⟨c.val * 64 + j.val - 512, by omega⟩ l) else 0) = keyRow k b (c.val * 64) j l := by
    intro l
    unfold keyRow
    by_cases hs : 512 ≤ c.val * 64 + j.val
    · rw [dif_pos hs, dif_pos ⟨hs, by omega⟩]
    · rw [dif_neg hs, dif_neg fun h => hs h.1]
  simp only [hk, valid_word, select_word]
  rfl
/-- The largest entry of a row. -/
theorem rowMax_at (x : FVec Ideal S64x8x8x64x576 .f32) (z : FVec Ideal S_ .f32) (c : Fin 64) (b h : Fin 8) (r : Fin 64) :
    Host.reduce FloatOps.maximumf x z reducesTo_S64x8x8x64x576_S64x8x8x64_d4 h_S_ (ix4 c b h r)
      = Finset.univ.fold max (z ix0) fun j : Fin 576 => x (ix5 c b h r j) := by
  pointwise
  exact congrArg (fun a => Finset.fold max a (fun j : Fin 576 => x (ix5 c b h r j)) Finset.univ) (congrArg z (Subsingleton.elim _ _))

/-- A row's number, spread over the row. -/
theorem spread_at (x : FVec Ideal S64x8x8x64 .f32) (c : Fin 64) (b h : Fin 8) (r : Fin 64) (j : Fin 576) :
    broadcastInDim S64x8x8x64x576 ![0, 1, 2, 3, 4] bcast_S64x8x8x64x1_S64x8x8x64x576_0_1_2_3_4 (broadcastInDim S64x8x8x64x1 ![0, 1, 2, 3] bcast_S64x8x8x64_S64x8x8x64x1_0_1_2_3 x) (ix5 c b h r j) = x (ix4 c b h r) := by
  pointwise

/-- The exponential of a difference, at an index. -/
theorem exp_sub_at {s : Shape} (x y : FVec Ideal s .f32) (i : s.Idx) : Host.exp (subf x y) i = Ideal.exp (x i - y i) := rfl

/-- The larger of two arrays, at an index. -/
theorem max_at {s : Shape} (x y : FVec Ideal s .f32) (i : s.Idx) : maximumf x y i = max (x i) (y i) := rfl

/-- A constant array, at an index. -/
theorem constant_at {s : Shape} (w : BitVec 32) (i : s.Idx) : (constant s .f32 w : FVec Ideal s .f32) i = Ideal.ofBits .f32 w := rfl

/-- A spread constant, at an index. -/
theorem floor_at (w : BitVec 32) (i : S64x8x8x64.Idx) :
    broadcastInDim S64x8x8x64 ![] bcast_S_S64x8x8x64 (constant S_ .f32 w : FVec Ideal S_ .f32) i = Ideal.ofBits .f32 w := rfl

/-- A row of scores turned into weights. -/
theorem weightsOf_at (x : FVec Ideal S64x8x8x64x576 .f32) (c : Fin 64) (b h : Fin 8) (r : Fin 64) (j : Fin 576) :
    weightsOf x (ix5 c b h r j) = softWeight (fun j => x (ix5 c b h r j)) j := by
  unfold weightsOf softWeight
  rw [exp_sub_at, spread_at, max_at, rowMax_at, floor_at, low_word, max_bot_left, constant_at, low_word]

/-- The weights of a query. -/
theorem weights_at (q k : FVec Ideal S8x4096x512 .bf16) (rel : FVec Ideal S8x257 .f32) (c : Fin 64) (b h : Fin 8) (r : Fin 64) (j : Fin 576) :
    weights q k rel (ix5 c b h r j) = softWeight (fun j => scores q k rel (ix5 c b h r j)) j :=
  weightsOf_at _ c b h r j

/-- The band attention, read at a row and a lane. -/
theorem result_at (q k v : FVec Ideal S8x4096x512 .bf16) (rel : FVec Ideal S8x257 .f32) (b : Fin 8) (s : Fin 4096) (l : Fin 512) :
    result q k v rel (ix3 b s l)
      = rowShare (512 - s.val / 64 * 64) (fun d => q (ix3 b s d)) (keyRow k b (s.val / 64 * 64)) (keyRow v b (s.val / 64 * 64))
          (fun h j => bias rel (ix3 h ⟨s.val % 64, by omega⟩ j)) l := by
  obtain ⟨k0, k1, k2, k3⟩ := starts_at 4608#32 ⟨s.val / 64, by omega⟩
  have hs : (⟨s.val / 64 * 64 + s.val % 64, by omega⟩ : Fin 4096) = s := Fin.ext (by show s.val / 64 * 64 + s.val % 64 = s.val; omega)
  have hl : (⟨64 * (l.val / 64) + l.val % 64, by omega⟩ : Fin 512) = l := Fin.ext (by show 64 * (l.val / 64) + l.val % 64 = l.val; omega)
  have hv : ∀ j : Fin 576, (if h_1 : 512 ≤ s.val / 64 * 64 + j.val then v (ix3 b ⟨s.val / 64 * 64 + j.val - 512, by omega⟩ l) else 0) = keyRow v b (s.val / 64 * 64) j l := by
    intro j
    unfold keyRow
    by_cases hs : 512 ≤ s.val / 64 * 64 + j.val
    · rw [dif_pos hs, dif_pos ⟨hs, by omega⟩]
    · rw [dif_neg hs, dif_neg fun h => hs h.1]
  pointwise [result]
  simp only [slice_at _ _ ⟨s.val / 64, by omega⟩ k0 k1 k2 k3, padded_at, weights_at, scores_at, hl, hs, hv]
  rfl

/-- The bias reads the table. -/
theorem bias_finite (rel : FVec Ideal S8x257 .f32) (hrel : ∀ i, ∃ x : ℝ, rel i = x) (i : S8x64x576.Idx) : ∃ x : ℝ, bias rel i = x := by
  unfold bias Host.gather
  exact hrel _

/-- A row of finite keys, or of zeros before the sequence, is finite. -/
theorem keyRow_finite (x : FVec Ideal S8x4096x512 .bf16) (hx : ∀ i, ∃ y : ℝ, x i = y) (b : Fin 8) (n : ℕ) (j : Fin 576) (l : Fin 512) : ∃ y : ℝ, keyRow x b n j l = y := by
  unfold keyRow
  split
  · exact hx _
  · exact ⟨0, rfl⟩

end Cert.ReferenceIdeal.Math
-- ==== Proof.Band.lean ====
/- The array the band attention kernel returns is the reference's. -/
module

public import proofs.«01_k».proof.Defs
public import proofs.«01_k».proof.Proof.BandRef
public import proofs.«01_k».proof.Proof.Gen.KernelIdeal.Value
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Math

open Cert.KernelIdeal Cert.KernelIdeal.Gen Cert.Layer

variable (m : (ℓ : Loc nD τ sig) → Buf (Elt Ideal) ℓ)

/-- Which block each window reads or writes at a grid point: the point's batch entry and its chunk. -/
theorem idx : ∀ t : Fin cfg0.N, win0_0.index t = ![t.val / 64, t.val % 64, 0] ∧ win0_1.index t = ![t.val / 64, 0, 0]
    ∧ win0_2.index t = ![t.val / 64, 0, 0] ∧ win0_3.index t = ![0, 0, 0] ∧ win0_4.index t = ![t.val / 64, t.val % 64, 0]
    ∧ (grid0.coords t 1).val = t.val % 64 :=
  (by decide +kernel : ∀ t : Fin grid0.N, _)

/-- A grid point's batch. -/
theorem batch_lt (t : Fin cfg0.N) : t.val / 64 < 8 := by
  have h : (t : ℕ) < 512 := t.isLt
  omega

/-- The block of queries. -/
theorem blk_0 (c : Dev nD) (t : Fin cfg0.N) (r : Fin 64) (l : Fin 512) :
    (show FVec Ideal S1x64x512 .bf16 from iblk m c 0 t) (ix3 0 r l)
      = (show FVec Ideal S8x4096x512 .bf16 from m ((c : Thread nD τ).loc main_arg0)) (ix3 ⟨t.val / 64, batch_lt t⟩ ⟨t.val % 64 * 64 + r, by omega⟩ l) := by
  blk_point [iblk, V, idx t]

/-- The keys behind their zeros. -/
theorem padded_k (c : Dev nD) (b : Fin 8) (s : Fin 4608) (l : Fin 512) :
    (show FVec Ideal S8x4608x512 .bf16 from V m c main_v0) (ix3 b s l)
      = if hs : 512 ≤ s.val then (show FVec Ideal S8x4096x512 .bf16 from m ((c : Thread nD τ).loc main_arg1)) (ix3 b ⟨s.val - 512, by omega⟩ l) else 0 := by
  simp only [V, hostOps0, hostOps0_1, hostOps0_2, hostOps0_3, hostOps0_4, hostOps0_5, hostOps0_6, List.flatten_cons, List.flatten_nil, List.append_nil, List.cons_append, List.nil_append]
  entry_read
  show pad S8x4608x512 ![0, 512, 0] ![0, 0, 0] ![0, 0, 0] (show FVec Ideal S8x4096x512 .bf16 from m ((c : Thread nD τ).loc main_arg1))
    (sitofp (F := Ideal) .bf16 (constantI S_ 32 0#32)) pads_S8x4096x512_S8x4608x512_000_51200_000 h_S_ (ix3 b s l) = _
  generalize hx : (show FVec Ideal S8x4096x512 .bf16 from m ((c : Thread nD τ).loc main_arg1)) = x
  pointwise
  by_cases hs : 512 ≤ s.val
  · rw [dif_pos ⟨hs, by omega⟩, dif_pos hs]
    subst hx
    rfl
  · rw [dif_neg (fun h => hs h.1), dif_neg hs]
    show (((0#32 : BitVec 32).toInt : ℝ) : EReal) = 0
    simp

/-- The values behind their zeros. -/
theorem padded_v (c : Dev nD) (b : Fin 8) (s : Fin 4608) (l : Fin 512) :
    (show FVec Ideal S8x4608x512 .bf16 from V m c main_v1) (ix3 b s l)
      = if hs : 512 ≤ s.val then (show FVec Ideal S8x4096x512 .bf16 from m ((c : Thread nD τ).loc main_arg2)) (ix3 b ⟨s.val - 512, by omega⟩ l) else 0 := by
  simp only [V, hostOps0, hostOps0_1, hostOps0_2, hostOps0_3, hostOps0_4, hostOps0_5, hostOps0_6, List.flatten_cons, List.flatten_nil, List.append_nil, List.cons_append, List.nil_append]
  entry_read
  show pad S8x4608x512 ![0, 512, 0] ![0, 0, 0] ![0, 0, 0] (show FVec Ideal S8x4096x512 .bf16 from m ((c : Thread nD τ).loc main_arg2))
    (sitofp (F := Ideal) .bf16 (constantI S_ 32 0#32)) pads_S8x4096x512_S8x4608x512_000_51200_000 h_S_ (ix3 b s l) = _
  generalize hx : (show FVec Ideal S8x4096x512 .bf16 from m ((c : Thread nD τ).loc main_arg2)) = x
  pointwise
  by_cases hs : 512 ≤ s.val
  · rw [dif_pos ⟨hs, by omega⟩, dif_pos hs]
    subst hx
    rfl
  · rw [dif_neg (fun h => hs h.1), dif_neg hs]
    show (((0#32 : BitVec 32).toInt : ℝ) : EReal) = 0
    simp

/-- The block of keys is a batch's whole array. -/
theorem blk_1 (c : Dev nD) (t : Fin cfg0.N) (s : Fin 4608) (l : Fin 512) :
    (show FVec Ideal S1x4608x512 .bf16 from iblk m c 1 t) (ix3 0 s l)
      = (show FVec Ideal S8x4608x512 .bf16 from V m c main_v0) (ix3 ⟨t.val / 64, batch_lt t⟩ s l) := by
  show V m c main_v0 (((cfg0.win 1).blk t).view.emb (ix3 0 s l)) = _
  refine congrArg _ ?_
  blk_ext [idx t]

/-- The block of values is a batch's whole array. -/
theorem blk_2 (c : Dev nD) (t : Fin cfg0.N) (s : Fin 4608) (l : Fin 512) :
    (show FVec Ideal S1x4608x512 .bf16 from iblk m c 2 t) (ix3 0 s l)
      = (show FVec Ideal S8x4608x512 .bf16 from V m c main_v1) (ix3 ⟨t.val / 64, batch_lt t⟩ s l) := by
  show V m c main_v1 (((cfg0.win 2).blk t).view.emb (ix3 0 s l)) = _
  refine congrArg _ ?_
  blk_ext [idx t]

/-- The kernel's host lines build the reference's biases. -/
theorem bias_eq (c : Dev nD) :
    (show FVec Ideal S8x64x576 .f32 from V m c main_v20) = ReferenceIdeal.Math.bias (m ((c : Thread nD τ).loc main_arg3)) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.ofBuf, StableHlo.TRef.toBuf, cast_eq, cast_cast]
  unfold ReferenceIdeal.Math.bias
  simp only [id]
  rfl

/-- The block of biases is the whole array. -/
theorem blk_3 (c : Dev nD) (t : Fin cfg0.N) (h : Fin 8) (r : Fin 64) (j : Fin 576) :
    (show FVec Ideal S8x64x576 .f32 from iblk m c 3 t) (ix3 h r j)
      = (show FVec Ideal S8x64x576 .f32 from V m c main_v20) (ix3 h r j) := by
  show V m c main_v20 (((cfg0.win 3).blk t).view.emb (ix3 h r j)) = _
  refine congrArg _ ?_
  blk_ext [idx t]

/-- Where a stored entry goes in the output. -/
theorem emb_4 (t : Fin cfg0.N) (r : Fin 64) (l : Fin 512) :
    ((cfg0.win 4).blk t).view.emb (ix3 0 r l) = (ix3 ⟨t.val / 64, batch_lt t⟩ ⟨t.val % 64 * 64 + r, by omega⟩ l : S8x4096x512.Idx) := by
  blk_ext [idx t]

/-- The stored blocks fill the output. -/
theorem covers_4 : (cfg0.win 4).Covers :=
  (cfg0.win 4).covers_of_index_surj rfl (by decide) fun β => by
    have h0 : (β 0).val < 8 := lt_of_lt_of_eq (β 0).isLt (by decide)
    have h1 : (β 1).val < 64 := lt_of_lt_of_eq (β 1).isLt (by decide)
    have h2 : (β 2).val < 1 := lt_of_lt_of_eq (β 2).isLt (by decide)
    have ht : (β 0).val * 64 + (β 1).val < cfg0.N := lt_of_lt_of_eq (by omega : _ < 512) (by decide)
    refine ⟨⟨(β 0).val * 64 + (β 1).val, ht⟩, fun a => ?_⟩
    refine (congrFun (idx ⟨(β 0).val * 64 + (β 1).val, ht⟩).2.2.2.2.1 a).trans ?_
    match a with
    | ⟨0, _⟩ => show ((β 0).val * 64 + (β 1).val) / 64 = (β 0).val; omega
    | ⟨1, _⟩ => show ((β 0).val * 64 + (β 1).val) % 64 = (β 1).val; omega
    | ⟨2, _⟩ => show 0 = (β 2).val; omega

/-- Where the test for finiteness gives the true word, the number is real. -/
theorem finite_of_word {x : EReal} (h : BitVec.ofBool (decide (max x (-x) < Ideal.ofBits .f32 0x7F800000#32)) = 1#1) : ∃ y : ℝ, x = y := by
  have htop : Ideal.ofBits .f32 0x7F800000#32 = ⊤ := by simp [Ideal.ofBits, Ideal.ieee]
  rw [htop] at h
  have hlt : max x (-x) < ⊤ := by
    by_contra hn
    rw [decide_eq_false hn] at h
    exact absurd h (by decide)
  have h1 : x ≠ ⊤ := fun e => by subst e; simp at hlt
  have h2 : x ≠ ⊥ := fun e => by subst e; simp at hlt
  exact ⟨x.toReal, (EReal.coe_toReal h1 h2).symm⟩

/-- Under the precondition the queries, the keys and the biases are real. -/
theorem finite_args {hf : Cert.Pre_finite_scores.Facts} (hpre : Pre_KernelIdeal_finite_scores (hPre_finite_scores := hf) m) (c : Dev nD) :
    (∀ i, ∃ y : ℝ, (show FVec Ideal S8x4096x512 .bf16 from m ((c : Thread nD τ).loc main_arg0)) i = y)
    ∧ (∀ i, ∃ y : ℝ, (show FVec Ideal S8x4096x512 .bf16 from m ((c : Thread nD τ).loc main_arg1)) i = y)
    ∧ (∀ i, ∃ y : ℝ, (show FVec Ideal S8x257 .f32 from m ((c : Thread nD τ).loc main_arg3)) i = y) := by
  obtain ⟨h0, h1, h2⟩ := hpre c
  exact ⟨fun i => finite_of_word (congrFun h0 i), fun i => finite_of_word (congrFun h1 i), fun i => finite_of_word (congrFun h2 i)⟩

/-- The keys a grid point reads. -/
theorem keys_blk (c : Dev nD) (t : Fin cfg0.N) (j : Fin 576) (l : Fin 512) (hj : t.val % 64 * 64 + j.val < 4608) :
    (show FVec Ideal S1x4608x512 .bf16 from iblk m c 1 t) (ix3 0 ⟨t.val % 64 * 64 + j.val, hj⟩ l)
      = ReferenceIdeal.Math.keyRow (m ((c : Thread nD τ).loc main_arg1)) ⟨t.val / 64, batch_lt t⟩ (t.val % 64 * 64) j l := by
  rw [blk_1, padded_k]
  unfold ReferenceIdeal.Math.keyRow
  by_cases hs : 512 ≤ t.val % 64 * 64 + j.val
  · rw [dif_pos hs, dif_pos ⟨hs, hj⟩]
  · rw [dif_neg hs, dif_neg fun h => hs h.1]

/-- The values a grid point reads. -/
theorem values_blk (c : Dev nD) (t : Fin cfg0.N) (j : Fin 576) (l : Fin 512) (hj : t.val % 64 * 64 + j.val < 4608) :
    (show FVec Ideal S1x4608x512 .bf16 from iblk m c 2 t) (ix3 0 ⟨t.val % 64 * 64 + j.val, hj⟩ l)
      = ReferenceIdeal.Math.keyRow (m ((c : Thread nD τ).loc main_arg2)) ⟨t.val / 64, batch_lt t⟩ (t.val % 64 * 64) j l := by
  rw [blk_2, padded_v]
  unfold ReferenceIdeal.Math.keyRow
  by_cases hs : 512 ≤ t.val % 64 * 64 + j.val
  · rw [dif_pos hs, dif_pos ⟨hs, hj⟩]
  · rw [dif_neg hs, dif_neg fun h => hs h.1]

/-- A point's stored row, from the argument arrays. -/
theorem row_blk {hf : Cert.Pre_finite_scores.Facts} (hpre : Pre_KernelIdeal_finite_scores (hPre_finite_scores := hf) m) (c : Dev nD) (t : Fin cfg0.N) (r : Fin 64) (l : Fin 512) :
    outsAt0 m c t (ix3 0 r l)
      = ReferenceIdeal.Math.result (m ((c : Thread nD τ).loc main_arg0)) (m ((c : Thread nD τ).loc main_arg1)) (m ((c : Thread nD τ).loc main_arg2)) (m ((c : Thread nD τ).loc main_arg3))
          (ix3 ⟨t.val / 64, batch_lt t⟩ ⟨t.val % 64 * 64 + r, by omega⟩ l) := by
  obtain ⟨f0, f1, f3⟩ := finite_args m hpre c
  unfold outsAt0
  rw [out_at, ReferenceIdeal.Math.result_at]
  have e1 : (t.val % 64 * 64 + r.val) / 64 = t.val % 64 := by omega
  have e2 : (⟨(t.val % 64 * 64 + r.val) % 64, by omega⟩ : Fin 64) = r := Fin.ext (by show (t.val % 64 * 64 + r.val) % 64 = r.val; omega)
  have e3 := (idx t).2.2.2.2.2
  simp only [e1, e2, e3]
  rw [← rowOut_eq_share _ _ _ _ _ (fun d => f0 _) (fun j d => ReferenceIdeal.Math.keyRow_finite _ f1 _ _ _ _) (fun h j => ReferenceIdeal.Math.bias_finite _ f3 _)]
  exact congrFun (congr (congr (congr (congrArg (rowOut _) (funext fun d => blk_0 m c t r d)) (funext fun j => funext fun d => keys_blk m c t j d _))
    (funext fun j => funext fun d => values_blk m c t j d _)) (funext fun h => funext fun j => (blk_3 m c t h r j).trans (congrFun (bias_eq m c) (ix3 h r j)))) l

/-- After the whole grid the output holds the reference's band attention. -/
theorem final4 {hf : Cert.Pre_finite_scores.Facts} (hpre : Pre_KernelIdeal_finite_scores (hPre_finite_scores := hf) m) (c : Dev nD) :
    (dats m 0 c).arrAt 4 (cfgs 0).N
      = ReferenceIdeal.Math.result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ covers_4 fun t _ y => ?_
  blk_simp
  rw [after0_4]
  have hy : y = (ix3 0 (y 1) (y 2) : S1x64x512.Idx) := (eq_ix3 y).trans (congrArg (fun a : Fin 1 => (ix3 a (y 1) (y 2) : S1x64x512.Idx)) (Subsingleton.elim (α := Fin 1) (y 0) 0))
  rw [hy]
  exact (row_blk m hpre c t (y 1) (y 2)).trans (congrArg _ (emb_4 t (y 1) (y 2)).symm)

end Cert.KernelIdeal.Math
-- ==== Proof.PleMath.lean ====
/- The gated per-layer input embedding and the last norm, read at an index: the formula of one row, the kernel's stored
   block and the reference's array as that formula. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Layer

/-- RMS norm of one row of 1024 numbers, with its gains, at one column. -/
def rmsRow (x g : Fin 1024 → EReal) (l : Fin 1024) : EReal :=
  x l * Ideal.rsqrt (Ideal.div (∑ k, x k * x k) (Ideal.ofBits .f32 0x44800000#32) + Ideal.ofBits .f32 0x358637BD#32) * g l

/-- One row after the gated embedding is added: `h + (p · w_ple) · sigmoid (rms h · w_gate)`. -/
def pleRow (h : Fin 1024 → EReal) (p : Fin 256 → EReal) (g : Fin 1024 → EReal) (wg : Fin 1024 → Fin 1024 → EReal)
    (wp : Fin 256 → Fin 1024 → EReal) (l : Fin 1024) : EReal :=
  h l + (∑ k, p k * wp k l) * Ideal.div 1 (1 + Ideal.exp (-∑ k, rmsRow h g k * wg k l))

end Cert.Layer

namespace Cert.Kernel4Ideal.Math

open Cert.Kernel4Ideal Cert.Kernel4Ideal.Gen Cert.Layer

/-- The kernel's stream with the gated embedding added, at an index. -/
theorem pay2_at (h : FVec Ideal S512x1024 .f32) (g : FVec Ideal S1x1024 .f32) (wg : FVec Ideal S1024x1024 .bf16)
    (p : FVec Ideal S512x256 .f32) (wp : FVec Ideal S256x1024 .bf16) (r : Fin 512) (l : Fin 1024) :
    k0_pay2 (F := Ideal) h g wg p wp (ix2 r l)
      = pleRow (fun k => h (ix2 r k)) (fun k => p (ix2 r k)) (fun k => g (ix2 0 k)) (fun k l => wg (ix2 k l)) (fun k l => wp (ix2 k l)) l := by
  pointwise [k0_pay2, pleRow, rmsRow]
  rw [zero_sub]

/-- The kernel's stored array, at an index: the last normalisation of that stream. -/
theorem pay1_at (h : FVec Ideal S512x1024 .f32) (g : FVec Ideal S1x1024 .f32) (wg : FVec Ideal S1024x1024 .bf16)
    (p : FVec Ideal S512x256 .f32) (wp : FVec Ideal S256x1024 .bf16) (fin : FVec Ideal S1x1024 .f32) (r : Fin 512) (l : Fin 1024) :
    k0_pay1 (F := Ideal) (k0_pay2 h g wg p wp) (k0_pay3 fin) (k0_pay4 h g wg p wp) (ix2 r l)
      = rmsRow (pleRow (fun k => h (ix2 r k)) (fun k => p (ix2 r k)) (fun k => g (ix2 0 k)) (fun k l => wg (ix2 k l)) (fun k l => wp (ix2 k l)))
          (fun k => fin (ix2 0 k)) l := by
  pointwise [k0_pay1, k0_pay3, k0_pay4, pay2_at, rmsRow]

end Cert.Kernel4Ideal.Math

namespace Cert.Reference4Ideal.Math

open Cert.Reference4Ideal Cert.Reference4Ideal.Gen Cert.Layer

/-- The reference's array after the gated embedding is added. -/
def embedded (a0 : FVec Ideal S32768x1024 .f32) (a1 : FVec Ideal S8x4096x256 .f32) (a2 : FVec Ideal S1024 .f32)
    (a3 : FVec Ideal S1024x1024 .f32) (a4 : FVec Ideal S256x1024 .f32) : FVec Ideal S8x4096x1024 .f32 :=
  addf (shapeCast _ a0 shapeCasts_S32768x1024_S8x4096x1024) (mulf (Host.dotGeneral dot_S8x4096x256_S256x1024_S8x4096x1024_2_0_01_1_n_n none a1 a4) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (Host.dotGeneral dot_S8x4096x1024_S1024x1024_S8x4096x1024_2_0_01_1_n_n none (mulf (mulf (shapeCast _ a0 shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ a0 shapeCasts_S32768x1024_S8x4096x1024) (shapeCast _ a0 shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a2))) a3))))))

/-- The reference's result. -/
def result (a0 : FVec Ideal S32768x1024 .f32) (a1 : FVec Ideal S8x4096x256 .f32) (a2 : FVec Ideal S1024 .f32)
    (a3 : FVec Ideal S1024x1024 .f32) (a4 : FVec Ideal S256x1024 .f32) (a5 : FVec Ideal S1024 .f32) : FVec Ideal S32768x1024 .f32 :=
  let s1 := embedded a0 a1 a2 a3 a4
  shapeCast _ (mulf (mulf s1 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf s1 s1) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a5))) shapeCasts_S8x4096x1024_S32768x1024

/-- Row `(b, s)` of the embedded array is the row formula of row `4096 b + s` of `h`. -/
theorem embedded_at (a0 : FVec Ideal S32768x1024 .f32) (a1 : FVec Ideal S8x4096x256 .f32) (a2 : FVec Ideal S1024 .f32)
    (a3 : FVec Ideal S1024x1024 .f32) (a4 : FVec Ideal S256x1024 .f32) (b : Fin 8) (s : Fin 4096) (l : Fin 1024) :
    embedded a0 a1 a2 a3 a4 (ix3 b s l)
      = pleRow (fun k => a0 (ix2 ⟨b * 4096 + s, by omega⟩ k)) (fun k => a1 (ix3 b s k)) (fun k => a2 (ix1 k))
          (fun k l => a3 (ix2 k l)) (fun k l => a4 (ix2 k l)) l := by
  pointwise [embedded, rmsRow, pleRow]

/-- Row `r` of the reference's result is the norm of the row formula of row `r`. -/
theorem result_at (a0 : FVec Ideal S32768x1024 .f32) (a1 : FVec Ideal S8x4096x256 .f32) (a2 : FVec Ideal S1024 .f32)
    (a3 : FVec Ideal S1024x1024 .f32) (a4 : FVec Ideal S256x1024 .f32) (a5 : FVec Ideal S1024 .f32) (r : Fin 32768) (l : Fin 1024) :
    result a0 a1 a2 a3 a4 a5 (ix2 r l)
      = rmsRow (pleRow (fun k => a0 (ix2 r k)) (fun k => a1 (ix3 ⟨r / 4096, by omega⟩ ⟨r % 4096, by omega⟩ k)) (fun k => a2 (ix1 k))
          (fun k l => a3 (ix2 k l)) (fun k l => a4 (ix2 k l))) (fun k => a5 (ix1 k)) l := by
  pointwise [result, embedded_at, rmsRow]
  have h : (⟨(r : ℕ) / 4096 * 4096 + (r : ℕ) % 4096, by omega⟩ : Fin 32768) = r := Fin.ext (Nat.div_add_mod' _ _)
  simp only [h]

end Cert.Reference4Ideal.Math
-- ==== Proof.InMath.lean ====
/- The input projections read at an index: the formulas of one row, the kernel's stored blocks and the reference's arrays as
   these formulas. -/
module

public import proofs.«01_k».proof.Proof.PleMath
public import proofs.«01_k».proof.Proof.Gen.Kernel2Ideal.Value
public import proofs.«01_k».proof.Proof.Gen.Reference2Ideal.Run

@[expose] public section

set_option maxRecDepth 16384

noncomputable section

open Idealize.ShloMosaic Idealize.ShloMosaic.TcCoe Idealize.SL.Sem
open Idealize.ShloMosaic.Pipeline (Dat)

namespace Cert.Layer

/-- A row times one column of weights after the norm. -/
def normDot (x g w : Fin 1024 → EReal) : EReal := ∑ k, rmsRow x g k * w k

/-- A sixteenth of the logarithm of the logistic function, written so that the exponential never overflows. -/
def logGate (x : EReal) : EReal :=
  (min x 0 - Ideal.log (1 + Ideal.exp (-max x (-x)))) * Ideal.ofBits .f32 0x3D800000#32

/-- The word of one sixteenth. -/
theorem sixteenth : Ideal.ofBits .f32 0x3D800000#32 = (((1 : ℝ) / 16 : ℝ) : EReal) := by
  simp [Ideal.ofBits, Ideal.ieee, -EReal.coe_mul]; norm_num

/-- The word of sixteen. -/
theorem sixteen : Ideal.ofBits .f32 0x41800000#32 = ((16 : ℝ) : EReal) := by
  simp [Ideal.ofBits, Ideal.ieee, -EReal.coe_mul]; norm_num

/-- An exponential is not negative. -/
theorem exp_nonneg (y : EReal) : 0 ≤ Ideal.exp y := by
  induction y using EReal.rec with
  | bot => exact le_refl _
  | top => exact le_top
  | coe r => exact EReal.coe_nonneg.2 (Real.exp_pos r).le

/-- The logarithm of a number not below one is not minus infinity. -/
theorem log_ne_bot {z : EReal} (h : 1 ≤ z) : Ideal.log z ≠ ⊥ := by
  induction z using EReal.rec with
  | bot => exact absurd h (not_le_of_gt (by simpa using EReal.bot_lt_coe 1))
  | top => exact top_ne_bot
  | coe r =>
    have hr : (1 : ℝ) ≤ r := by exact_mod_cast h
    show (if r ≤ 0 then ⊥ else (Real.log r : EReal)) ≠ ⊥
    rw [if_neg (by linarith)]
    exact EReal.coe_ne_bot _

/-- The reference's way of writing it: minus `max (-x) 0 + log1p (exp (-|-x|))`, over sixteen. -/
theorem logGate_eq (x : EReal) :
    logGate x = Ideal.div (-(max (-x) 0 + Ideal.log (1 + Ideal.exp (-max (-x) x)))) (Ideal.ofBits .f32 0x41800000#32) := by
  unfold logGate
  rw [sixteenth, sixteen, Ideal.div_coe (by norm_num : (16 : ℝ) ≠ 0), max_comm (-x) x]
  congr 1
  have hm : min x 0 = -max (-x) 0 := by
    rcases le_total x 0 with h | h
    · rw [min_eq_left h, max_eq_left (EReal.neg_le_neg_iff.1 (by simpa using h)), neg_neg]
    · rw [min_eq_right h, max_eq_right (by simpa using EReal.neg_le_neg_iff.2 h), neg_zero]
  have hL : Ideal.log (1 + Ideal.exp (-max x (-x))) ≠ ⊥ := log_ne_bot (le_add_of_nonneg_right (exp_nonneg _))
  rw [hm, sub_eq_add_neg, EReal.neg_add]
  · rfl
  · exact Or.inl (ne_of_gt (lt_of_lt_of_le (by simp) (le_max_right (-x) 0)))
  · exact Or.inr hL

end Cert.Layer

namespace Cert.Kernel2Ideal.Math

open Cert.Kernel2Ideal Cert.Kernel2Ideal.Gen Cert.Layer

/-- The array the kernel stores through window 7, at an index. -/
theorem out7_at (x0 : FVec Ideal S512x1024 .f32) (x1 : FVec Ideal S1x1024 .f32) (x2 : FVec Ideal S1024x1536 .bf16)
    (x3 : FVec Ideal S1024x128 .bf16) (x4 : FVec Ideal S128x256 .bf16) (x5 : FVec Ideal S1x256 .f32) (x6 : FVec Ideal S1024x1536 .bf16) (r : Fin 512) (l : Fin 256) :
    out0_7 (F := Ideal) x0 x1 x2 x3 x4 x5 x6 (ix2 r l)
      = normDot (fun k => x0 (ix2 r k)) (fun k => x1 (ix2 0 k)) (fun k => x2 (ix2 k ⟨l, by omega⟩)) := by
  frame_out
  pointwise [k0_pay8, k0_pay7, k0_pay6, normDot, rmsRow]

/-- The array the kernel stores through window 8, at an index. -/
theorem out8_at (x0 : FVec Ideal S512x1024 .f32) (x1 : FVec Ideal S1x1024 .f32) (x2 : FVec Ideal S1024x1536 .bf16)
    (x3 : FVec Ideal S1024x128 .bf16) (x4 : FVec Ideal S128x256 .bf16) (x5 : FVec Ideal S1x256 .f32) (x6 : FVec Ideal S1024x1536 .bf16) (r : Fin 512) (l : Fin 256) :
    out0_8 (F := Ideal) x0 x1 x2 x3 x4 x5 x6 (ix2 r l)
      = normDot (fun k => x0 (ix2 r k)) (fun k => x1 (ix2 0 k)) (fun k => x2 (ix2 k ⟨256 + l, by omega⟩)) := by
  frame_out
  pointwise [k0_pay9, k0_pay7, k0_pay6, normDot, rmsRow]

/-- The array the kernel stores through window 10, at an index. -/
theorem out10_at (x0 : FVec Ideal S512x1024 .f32) (x1 : FVec Ideal S1x1024 .f32) (x2 : FVec Ideal S1024x1536 .bf16)
    (x3 : FVec Ideal S1024x128 .bf16) (x4 : FVec Ideal S128x256 .bf16) (x5 : FVec Ideal S1x256 .f32) (x6 : FVec Ideal S1024x1536 .bf16) (r : Fin 512) (l : Fin 512) :
    out0_10 (F := Ideal) x0 x1 x2 x3 x4 x5 x6 (ix2 r l)
      = normDot (fun k => x0 (ix2 r k)) (fun k => x1 (ix2 0 k)) (fun k => x2 (ix2 k ⟨512 + l, by omega⟩)) := by
  frame_out
  pointwise [k0_pay10, k0_pay7, k0_pay6, normDot, rmsRow]

/-- The array the kernel stores through window 11, at an index. -/
theorem out11_at (x0 : FVec Ideal S512x1024 .f32) (x1 : FVec Ideal S1x1024 .f32) (x2 : FVec Ideal S1024x1536 .bf16)
    (x3 : FVec Ideal S1024x128 .bf16) (x4 : FVec Ideal S128x256 .bf16) (x5 : FVec Ideal S1x256 .f32) (x6 : FVec Ideal S1024x1536 .bf16) (r : Fin 512) (l : Fin 512) :
    out0_11 (F := Ideal) x0 x1 x2 x3 x4 x5 x6 (ix2 r l)
      = normDot (fun k => x0 (ix2 r k)) (fun k => x1 (ix2 0 k)) (fun k => x2 (ix2 k ⟨1024 + l, by omega⟩)) := by
  frame_out
  pointwise [k0_pay11, k0_pay7, k0_pay6, normDot, rmsRow]

/-- The array the kernel stores through window 12, at an index. -/
theorem out12_at (x0 : FVec Ideal S512x1024 .f32) (x1 : FVec Ideal S1x1024 .f32) (x2 : FVec Ideal S1024x1536 .bf16)
    (x3 : FVec Ideal S1024x128 .bf16) (x4 : FVec Ideal S128x256 .bf16) (x5 : FVec Ideal S1x256 .f32) (x6 : FVec Ideal S1024x1536 .bf16) (r : Fin 512) (l : Fin 512) :
    out0_12 (F := Ideal) x0 x1 x2 x3 x4 x5 x6 (ix2 r l)
      = normDot (fun k => x0 (ix2 r k)) (fun k => x1 (ix2 0 k)) (fun k => x6 (ix2 k ⟨l, by omega⟩)) := by
  frame_out
  pointwise [k0_pay3, k0_pay2, k0_pay13, k0_pay6, normDot, rmsRow]

/-- The array the kernel stores through window 13, at an index. -/
theorem out13_at (x0 : FVec Ideal S512x1024 .f32) (x1 : FVec Ideal S1x1024 .f32) (x2 : FVec Ideal S1024x1536 .bf16)
    (x3 : FVec Ideal S1024x128 .bf16) (x4 : FVec Ideal S128x256 .bf16) (x5 : FVec Ideal S1x256 .f32) (x6 : FVec Ideal S1024x1536 .bf16) (r : Fin 512) (l : Fin 512) :
    out0_13 (F := Ideal) x0 x1 x2 x3 x4 x5 x6 (ix2 r l)
      = normDot (fun k => x0 (ix2 r k)) (fun k => x1 (ix2 0 k)) (fun k => x6 (ix2 k ⟨512 + l, by omega⟩)) := by
  frame_out
  pointwise [k0_pay4, k0_pay2, k0_pay13, k0_pay6, normDot, rmsRow]

/-- The array the kernel stores through window 14, at an index. -/
theorem out14_at (x0 : FVec Ideal S512x1024 .f32) (x1 : FVec Ideal S1x1024 .f32) (x2 : FVec Ideal S1024x1536 .bf16)
    (x3 : FVec Ideal S1024x128 .bf16) (x4 : FVec Ideal S128x256 .bf16) (x5 : FVec Ideal S1x256 .f32) (x6 : FVec Ideal S1024x1536 .bf16) (r : Fin 512) (l : Fin 512) :
    out0_14 (F := Ideal) x0 x1 x2 x3 x4 x5 x6 (ix2 r l)
      = normDot (fun k => x0 (ix2 r k)) (fun k => x1 (ix2 0 k)) (fun k => x6 (ix2 k ⟨1024 + l, by omega⟩)) := by
  frame_out
  pointwise [k0_pay5, k0_pay2, k0_pay13, k0_pay6, normDot, rmsRow]

/-- The array the kernel stores through window 9, at an index. -/
theorem out9_at (x0 : FVec Ideal S512x1024 .f32) (x1 : FVec Ideal S1x1024 .f32) (x2 : FVec Ideal S1024x1536 .bf16)
    (x3 : FVec Ideal S1024x128 .bf16) (x4 : FVec Ideal S128x256 .bf16) (x5 : FVec Ideal S1x256 .f32) (x6 : FVec Ideal S1024x1536 .bf16) (r : Fin 512) (l : Fin 256) :
    out0_9 (F := Ideal) x0 x1 x2 x3 x4 x5 x6 (ix2 r l)
      = logGate ((∑ j : Fin 128, normDot (fun k => x0 (ix2 r k)) (fun k => x1 (ix2 0 k)) (fun k => x3 (ix2 k j)) * x4 (ix2 j l)) + x5 (ix2 0 l)) := by
  frame_out
  pointwise [k0_pay1, k0_pay12, k0_pay6, normDot, rmsRow, logGate]
  rw [zero_sub]
  rfl

end Cert.Kernel2Ideal.Math

namespace Cert.Reference2Ideal.Math

open Cert.Reference2Ideal Cert.Reference2Ideal.Gen Cert.Layer

/-- The reference's projection of every row to 3088 columns. -/
def proj (a0 : FVec Ideal S32768x1024 .f32) (a1 : FVec Ideal S1024 .f32) (a2 : FVec Ideal S1024x3088 .f32) : FVec Ideal S32768x3088 .f32 :=
  Host.dotGeneral dot_S32768x1024_S1024x3088_S32768x3088_1_0_0_1_n_n none (mulf (mulf a0 (broadcastInDim S32768x1024 ![0, 1] bcast_S32768x1_S32768x1024_0_1 (Host.rsqrt (addf (Host.divf (broadcastInDim S32768x1 ![0] bcast_S32768_S32768x1_0 (Host.reduceAdd (mulf a0 a0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a1))) a2

/-- The reference's wide product, at an index. -/
theorem proj_at (a0 : FVec Ideal S32768x1024 .f32) (a1 : FVec Ideal S1024 .f32) (a2 : FVec Ideal S1024x3088 .f32)
    (r : Fin 32768) (l : Fin 3088) :
    proj a0 a1 a2 (ix2 r l) = normDot (fun k => a0 (ix2 r k)) (fun k => a1 (ix1 k)) (fun k => a2 (ix2 k l)) := by
  pointwise [proj, normDot, rmsRow]

/-- The reference's columns 0 to 255. -/
def glaQuery (a0 : FVec Ideal S32768x1024 .f32) (a1 : FVec Ideal S1024 .f32) (a2 : FVec Ideal S1024x3088 .f32) :
    FVec Ideal S32768x256 .f32 :=
  let p := proj a0 a1 a2
  extractStridedSlice S32768x256 ![0, 0] p slices_S32768x3088_S32768x256_0_0

/-- The reference's queries of the linear attention, at an index. -/
theorem glaQuery_at (a0 : FVec Ideal S32768x1024 .f32) (a1 : FVec Ideal S1024 .f32) (a2 : FVec Ideal S1024x3088 .f32)
    (r : Fin 32768) (l : Fin 256) :
    glaQuery a0 a1 a2 (ix2 r l) = normDot (fun k => a0 (ix2 r k)) (fun k => a1 (ix1 k)) (fun k => a2 (ix2 k ⟨l, by omega⟩)) := by
  pointwise [glaQuery, proj_at]

/-- The reference's columns 256 to 511. -/
def glaKey (a0 : FVec Ideal S32768x1024 .f32) (a1 : FVec Ideal S1024 .f32) (a2 : FVec Ideal S1024x3088 .f32) :
    FVec Ideal S32768x256 .f32 :=
  let p := proj a0 a1 a2
  extractStridedSlice S32768x256 ![0, 256] p slices_S32768x3088_S32768x256_0_256

/-- The reference's keys of the linear attention, at an index. -/
theorem glaKey_at (a0 : FVec Ideal S32768x1024 .f32) (a1 : FVec Ideal S1024 .f32) (a2 : FVec Ideal S1024x3088 .f32)
    (r : Fin 32768) (l : Fin 256) :
    glaKey a0 a1 a2 (ix2 r l) = normDot (fun k => a0 (ix2 r k)) (fun k => a1 (ix1 k)) (fun k => a2 (ix2 k ⟨256 + l, by omega⟩)) := by
  pointwise [glaKey, proj_at]

/-- The reference's columns 512 to 1023. -/
def glaValue (a0 : FVec Ideal S32768x1024 .f32) (a1 : FVec Ideal S1024 .f32) (a2 : FVec Ideal S1024x3088 .f32) :
    FVec Ideal S32768x512 .f32 :=
  let p := proj a0 a1 a2
  extractStridedSlice S32768x512 ![0, 512] p slices_S32768x3088_S32768x512_0_512

/-- The reference's values of the linear attention, at an index. -/
theorem glaValue_at (a0 : FVec Ideal S32768x1024 .f32) (a1 : FVec Ideal S1024 .f32) (a2 : FVec Ideal S1024x3088 .f32)
    (r : Fin 32768) (l : Fin 512) :
    glaValue a0 a1 a2 (ix2 r l) = normDot (fun k => a0 (ix2 r k)) (fun k => a1 (ix1 k)) (fun k => a2 (ix2 k ⟨512 + l, by omega⟩)) := by
  pointwise [glaValue, proj_at]

/-- The reference's columns 1040 to 1551. -/
def glaGate (a0 : FVec Ideal S32768x1024 .f32) (a1 : FVec Ideal S1024 .f32) (a2 : FVec Ideal S1024x3088 .f32) :
    FVec Ideal S32768x512 .f32 :=
  let p := proj a0 a1 a2
  extractStridedSlice S32768x512 ![0, 1040] p slices_S32768x3088_S32768x512_0_1040

/-- The reference's output gates of the linear attention, at an index. -/
theorem glaGate_at (a0 : FVec Ideal S32768x1024 .f32) (a1 : FVec Ideal S1024 .f32) (a2 : FVec Ideal S1024x3088 .f32)
    (r : Fin 32768) (l : Fin 512) :
    glaGate a0 a1 a2 (ix2 r l) = normDot (fun k => a0 (ix2 r k)) (fun k => a1 (ix1 k)) (fun k => a2 (ix2 k ⟨1040 + l, by omega⟩)) := by
  pointwise [glaGate, proj_at]

/-- The reference's columns 1552 to 2063. -/
def attQuery (a0 : FVec Ideal S32768x1024 .f32) (a1 : FVec Ideal S1024 .f32) (a2 : FVec Ideal S1024x3088 .f32) :
    FVec Ideal S32768x512 .bf16 :=
  let p := proj a0 a1 a2
  truncf .bf16 (extractStridedSlice S32768x512 ![0, 1552] p slices_S32768x3088_S32768x512_0_1552) bitsLt_bf16_f32

/-- The reference's queries of the banded attention, at an index. -/
theorem attQuery_at (a0 : FVec Ideal S32768x1024 .f32) (a1 : FVec Ideal S1024 .f32) (a2 : FVec Ideal S1024x3088 .f32)
    (r : Fin 32768) (l : Fin 512) :
    attQuery a0 a1 a2 (ix2 r l) = normDot (fun k => a0 (ix2 r k)) (fun k => a1 (ix1 k)) (fun k => a2 (ix2 k ⟨1552 + l, by omega⟩)) := by
  pointwise [attQuery, proj_at]

/-- The reference's columns 2064 to 2575. -/
def attKey (a0 : FVec Ideal S32768x1024 .f32) (a1 : FVec Ideal S1024 .f32) (a2 : FVec Ideal S1024x3088 .f32) :
    FVec Ideal S32768x512 .bf16 :=
  let p := proj a0 a1 a2
  truncf .bf16 (extractStridedSlice S32768x512 ![0, 2064] p slices_S32768x3088_S32768x512_0_2064) bitsLt_bf16_f32

/-- The reference's keys of the banded attention, at an index. -/
theorem attKey_at (a0 : FVec Ideal S32768x1024 .f32) (a1 : FVec Ideal S1024 .f32) (a2 : FVec Ideal S1024x3088 .f32)
    (r : Fin 32768) (l : Fin 512) :
    attKey a0 a1 a2 (ix2 r l) = normDot (fun k => a0 (ix2 r k)) (fun k => a1 (ix1 k)) (fun k => a2 (ix2 k ⟨2064 + l, by omega⟩)) := by
  pointwise [attKey, proj_at]

/-- The reference's columns 2576 to 3087. -/
def attValue (a0 : FVec Ideal S32768x1024 .f32) (a1 : FVec Ideal S1024 .f32) (a2 : FVec Ideal S1024x3088 .f32) :
    FVec Ideal S32768x512 .bf16 :=
  let p := proj a0 a1 a2
  truncf .bf16 (extractStridedSlice S32768x512 ![0, 2576] p slices_S32768x3088_S32768x512_0_2576) bitsLt_bf16_f32

/-- The reference's values of the banded attention, at an index. -/
theorem attValue_at (a0 : FVec Ideal S32768x1024 .f32) (a1 : FVec Ideal S1024 .f32) (a2 : FVec Ideal S1024x3088 .f32)
    (r : Fin 32768) (l : Fin 512) :
    attValue a0 a1 a2 (ix2 r l) = normDot (fun k => a0 (ix2 r k)) (fun k => a1 (ix1 k)) (fun k => a2 (ix2 k ⟨2576 + l, by omega⟩)) := by
  pointwise [attValue, proj_at]

/-- Minus the reference's gate before the logistic function. -/
def gateArg (a0 : FVec Ideal S32768x1024 .f32) (a1 : FVec Ideal S1024 .f32) (a2 : FVec Ideal S1024x3088 .f32)
    (a3 : FVec Ideal S16x256 .f32) (a4 : FVec Ideal S256 .f32) : FVec Ideal S32768x256 .f32 :=
  let p := proj a0 a1 a2
  Host.negf (addf (Host.dotGeneral dot_S32768x16_S16x256_S32768x256_1_0_0_1_n_n none (extractStridedSlice S32768x16 ![0, 1024] p slices_S32768x3088_S32768x16_0_1024) a3) (broadcastInDim S32768x256 ![0, 1] bcast_S1x256_S32768x256_0_1 (broadcastInDim S1x256 ![1] bcast_S256_S1x256_1 a4)))

/-- The reference's logarithm of the gate. -/
def logDecay (a0 : FVec Ideal S32768x1024 .f32) (a1 : FVec Ideal S1024 .f32) (a2 : FVec Ideal S1024x3088 .f32)
    (a3 : FVec Ideal S16x256 .f32) (a4 : FVec Ideal S256 .f32) : FVec Ideal S32768x256 .f32 :=
  let s1 := gateArg a0 a1 a2 a3 a4
  Host.divf (Host.negf (select (cmpf .une (subf s1 (broadcastInDim S32768x256 ![] bcast_S_S32768x256 (constant S_ .f32 0x00000000#32))) (subf s1 (broadcastInDim S32768x256 ![] bcast_S_S32768x256 (constant S_ .f32 0x00000000#32)))) (addf s1 (broadcastInDim S32768x256 ![] bcast_S_S32768x256 (constant S_ .f32 0x00000000#32))) (addf (maximumf s1 (broadcastInDim S32768x256 ![] bcast_S_S32768x256 (constant S_ .f32 0x00000000#32))) (Host.log1p (Host.exp (Host.negf (Host.absf (subf s1 (broadcastInDim S32768x256 ![] bcast_S_S32768x256 (constant S_ .f32 0x00000000#32)))))))))) (broadcastInDim S32768x256 ![] bcast_S_S32768x256 (constant S_ .f32 0x41800000#32))

/-- The reference's argument of the decay's logarithm, negated, at an index. -/
theorem gateArg_at (a0 : FVec Ideal S32768x1024 .f32) (a1 : FVec Ideal S1024 .f32) (a2 : FVec Ideal S1024x3088 .f32)
    (a3 : FVec Ideal S16x256 .f32) (a4 : FVec Ideal S256 .f32) (r : Fin 32768) (l : Fin 256) :
    gateArg a0 a1 a2 a3 a4 (ix2 r l)
      = -((∑ j : Fin 16, normDot (fun k => a0 (ix2 r k)) (fun k => a1 (ix1 k)) (fun k => a2 (ix2 k ⟨1024 + j, by omega⟩)) * a3 (ix2 j l))
          + a4 (ix1 l)) := by
  pointwise [gateArg, proj_at]

/-- The reference's log decays, at an index. -/
theorem logDecay_at (a0 : FVec Ideal S32768x1024 .f32) (a1 : FVec Ideal S1024 .f32) (a2 : FVec Ideal S1024x3088 .f32)
    (a3 : FVec Ideal S16x256 .f32) (a4 : FVec Ideal S256 .f32) (r : Fin 32768) (l : Fin 256) :
    logDecay a0 a1 a2 a3 a4 (ix2 r l)
      = logGate ((∑ j : Fin 16, normDot (fun k => a0 (ix2 r k)) (fun k => a1 (ix1 k)) (fun k => a2 (ix2 k ⟨1024 + j, by omega⟩)) * a3 (ix2 j l))
          + a4 (ix1 l)) := by
  rw [logGate_eq]
  pointwise [logDecay, gateArg_at]
  rw [if_neg (fun h => h rfl)]
  show Ideal.div (-(max _ 0 + Ideal.log (1 + Ideal.exp (-max _ (- -_))))) _ = _
  rw [neg_neg]

end Cert.Reference2Ideal.Math
-- ==== Proof.In.lean ====
/- The arrays the input-projection kernel returns are the reference's. -/
module

public import proofs.«01_k».proof.Proof.InMath
public import proofs.«01_k».proof.Proof.Gen.Kernel2Ideal.Value

@[expose] public section

set_option maxRecDepth 16384

noncomputable section

open Idealize.ShloMosaic Idealize.ShloMosaic.TcCoe Idealize.SL.Sem
open Idealize.ShloMosaic.Pipeline (Dat)

namespace Cert.Kernel2Ideal.Math

open Cert.Kernel2Ideal Cert.Kernel2Ideal.Gen Cert.Layer

variable (m : (ℓ : Loc nD τ sig) → Buf (Elt Ideal) ℓ)

/-- Which block each window reads or writes at a grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

/-- A grid point's rows are rows of the array. -/
theorem row_lt (t : Fin cfg0.N) (r : Fin 512) : (t : ℕ) * 512 + r < 32768 := by
  have h : (t : ℕ) < 64 := t.isLt
  omega

/-- The block that window 0 reads at a grid point, from the argument arrays. -/
theorem blk_0 (c : Dev nD) (t : Fin cfg0.N) (r : Fin 512) (k : Fin 1024) :
    (show FVec Ideal S512x1024 .f32 from iblk m c 0 t) (ix2 r k)
      = (show FVec Ideal S32768x1024 .f32 from m ((c : Thread nD τ).loc main_arg0)) (ix2 ⟨t * 512 + r, row_lt t r⟩ k) := by
  blk_point [iblk, V, idx t]

/-- The padding value. -/
theorem pad_zero : FloatOps.sitofp (F := Ideal) FTy.f32 (0#32 : BitVec 32) = (0 : EReal) := by
  show (((0#32 : BitVec 32).toInt : ℝ) : EReal) = 0
  simp

/-- Window 1's block is its whole array. -/
theorem whole_1 (c : Dev nD) (t : Fin cfg0.N) (k : Fin 1) (l : Fin 1024) :
    (show FVec Ideal S1x1024 .f32 from iblk m c 1 t) (ix2 k l) = (show FVec Ideal S1x1024 .f32 from V m c main_v11) (ix2 k l) := by
  show V m c main_v11 (((cfg0.win 1).blk t).view.emb (ix2 k l)) = _
  refine congrArg _ ?_
  blk_ext [idx t]

/-- Window 2's block is its whole array. -/
theorem whole_2 (c : Dev nD) (t : Fin cfg0.N) (k : Fin 1024) (l : Fin 1536) :
    (show FVec Ideal S1024x1536 .bf16 from iblk m c 2 t) (ix2 k l) = (show FVec Ideal S1024x1536 .bf16 from V m c main_v3) (ix2 k l) := by
  show V m c main_v3 (((cfg0.win 2).blk t).view.emb (ix2 k l)) = _
  refine congrArg _ ?_
  blk_ext [idx t]

/-- Window 3's block is its whole array. -/
theorem whole_3 (c : Dev nD) (t : Fin cfg0.N) (k : Fin 1024) (l : Fin 128) :
    (show FVec Ideal S1024x128 .bf16 from iblk m c 3 t) (ix2 k l) = (show FVec Ideal S1024x128 .bf16 from V m c main_v6) (ix2 k l) := by
  show V m c main_v6 (((cfg0.win 3).blk t).view.emb (ix2 k l)) = _
  refine congrArg _ ?_
  blk_ext [idx t]

/-- Window 4's block is its whole array. -/
theorem whole_4 (c : Dev nD) (t : Fin cfg0.N) (k : Fin 128) (l : Fin 256) :
    (show FVec Ideal S128x256 .bf16 from iblk m c 4 t) (ix2 k l) = (show FVec Ideal S128x256 .bf16 from V m c main_v10) (ix2 k l) := by
  show V m c main_v10 (((cfg0.win 4).blk t).view.emb (ix2 k l)) = _
  refine congrArg _ ?_
  blk_ext [idx t]

/-- Window 5's block is its whole array. -/
theorem whole_5 (c : Dev nD) (t : Fin cfg0.N) (k : Fin 1) (l : Fin 256) :
    (show FVec Ideal S1x256 .f32 from iblk m c 5 t) (ix2 k l) = (show FVec Ideal S1x256 .f32 from V m c main_v12) (ix2 k l) := by
  show V m c main_v12 (((cfg0.win 5).blk t).view.emb (ix2 k l)) = _
  refine congrArg _ ?_
  blk_ext [idx t]

/-- Window 6's block is its whole array. -/
theorem whole_6 (c : Dev nD) (t : Fin cfg0.N) (k : Fin 1024) (l : Fin 1536) :
    (show FVec Ideal S1024x1536 .bf16 from iblk m c 6 t) (ix2 k l) = (show FVec Ideal S1024x1536 .bf16 from V m c main_v8) (ix2 k l) := by
  show V m c main_v8 (((cfg0.win 6).blk t).view.emb (ix2 k l)) = _
  refine congrArg _ ?_
  blk_ext [idx t]

/-- The block that window 1 reads at a grid point, from the argument arrays. -/
theorem blk_1 (c : Dev nD) (t : Fin cfg0.N) (k : Fin 1024) :
    (show FVec Ideal S1x1024 .f32 from iblk m c 1 t) (ix2 0 k) = (show FVec Ideal S1024 .f32 from m ((c : Thread nD τ).loc main_arg1)) (ix1 k) := by
  refine (whole_1 m c t 0 k).trans ?_
  simp only [V, hostOps0, hostOps0_1, hostOps0_2, hostOps0_3, hostOps0_4, List.flatten_cons, List.flatten_nil, List.append_nil,
    List.cons_append, List.nil_append]
  entry_read
  pointwise

/-- The block that window 5 reads at a grid point, from the argument arrays. -/
theorem blk_5 (c : Dev nD) (t : Fin cfg0.N) (k : Fin 256) :
    (show FVec Ideal S1x256 .f32 from iblk m c 5 t) (ix2 0 k) = (show FVec Ideal S256 .f32 from m ((c : Thread nD τ).loc main_arg4)) (ix1 k) := by
  refine (whole_5 m c t 0 k).trans ?_
  simp only [V, hostOps0, hostOps0_1, hostOps0_2, hostOps0_3, hostOps0_4, List.flatten_cons, List.flatten_nil, List.append_nil,
    List.cons_append, List.nil_append]
  entry_read
  pointwise

/-- The columns of window 2's block that output 7 uses, from the argument arrays. -/
theorem blk_2_7 (c : Dev nD) (t : Fin cfg0.N) (k : Fin 1024) (l : Fin 256) :
    (show FVec Ideal S1024x1536 .bf16 from iblk m c 2 t) (ix2 k ⟨l, by omega⟩)
      = (show FVec Ideal S1024x3088 .f32 from m ((c : Thread nD τ).loc main_arg2)) (ix2 k ⟨l, by omega⟩) := by
  refine (whole_2 m c t k ⟨l, by omega⟩).trans ?_
  simp only [V, hostOps0, hostOps0_1, hostOps0_2, hostOps0_3, hostOps0_4, List.flatten_cons, List.flatten_nil, List.append_nil,
    List.cons_append, List.nil_append]
  entry_read
  pointwise
  exact dif_pos (by omega)

/-- The columns of window 2's block that output 8 uses, from the argument arrays. -/
theorem blk_2_8 (c : Dev nD) (t : Fin cfg0.N) (k : Fin 1024) (l : Fin 256) :
    (show FVec Ideal S1024x1536 .bf16 from iblk m c 2 t) (ix2 k ⟨256 + l, by omega⟩)
      = (show FVec Ideal S1024x3088 .f32 from m ((c : Thread nD τ).loc main_arg2)) (ix2 k ⟨256 + l, by omega⟩) := by
  refine (whole_2 m c t k ⟨256 + l, by omega⟩).trans ?_
  simp only [V, hostOps0, hostOps0_1, hostOps0_2, hostOps0_3, hostOps0_4, List.flatten_cons, List.flatten_nil, List.append_nil,
    List.cons_append, List.nil_append]
  entry_read
  pointwise
  exact dif_pos (by omega)

/-- The columns of window 2's block that output 10 uses, from the argument arrays. -/
theorem blk_2_10 (c : Dev nD) (t : Fin cfg0.N) (k : Fin 1024) (l : Fin 512) :
    (show FVec Ideal S1024x1536 .bf16 from iblk m c 2 t) (ix2 k ⟨512 + l, by omega⟩)
      = (show FVec Ideal S1024x3088 .f32 from m ((c : Thread nD τ).loc main_arg2)) (ix2 k ⟨512 + l, by omega⟩) := by
  refine (whole_2 m c t k ⟨512 + l, by omega⟩).trans ?_
  simp only [V, hostOps0, hostOps0_1, hostOps0_2, hostOps0_3, hostOps0_4, List.flatten_cons, List.flatten_nil, List.append_nil,
    List.cons_append, List.nil_append]
  entry_read
  pointwise
  exact dif_pos (by omega)

/-- The columns of window 2's block that output 11 uses, from the argument arrays. -/
theorem blk_2_11 (c : Dev nD) (t : Fin cfg0.N) (k : Fin 1024) (l : Fin 512) :
    (show FVec Ideal S1024x1536 .bf16 from iblk m c 2 t) (ix2 k ⟨1024 + l, by omega⟩)
      = (show FVec Ideal S1024x3088 .f32 from m ((c : Thread nD τ).loc main_arg2)) (ix2 k ⟨1040 + l, by omega⟩) := by
  refine (whole_2 m c t k ⟨1024 + l, by omega⟩).trans ?_
  simp only [V, hostOps0, hostOps0_1, hostOps0_2, hostOps0_3, hostOps0_4, List.flatten_cons, List.flatten_nil, List.append_nil,
    List.cons_append, List.nil_append]
  entry_read
  pointwise

/-- The columns of window 6's block that output 12 uses, from the argument arrays. -/
theorem blk_6_12 (c : Dev nD) (t : Fin cfg0.N) (k : Fin 1024) (l : Fin 512) :
    (show FVec Ideal S1024x1536 .bf16 from iblk m c 6 t) (ix2 k ⟨l, by omega⟩)
      = (show FVec Ideal S1024x3088 .f32 from m ((c : Thread nD τ).loc main_arg2)) (ix2 k ⟨1552 + l, by omega⟩) := by
  refine (whole_6 m c t k ⟨l, by omega⟩).trans ?_
  simp only [V, hostOps0, hostOps0_1, hostOps0_2, hostOps0_3, hostOps0_4, List.flatten_cons, List.flatten_nil, List.append_nil,
    List.cons_append, List.nil_append]
  entry_read
  pointwise

/-- The columns of window 6's block that output 13 uses, from the argument arrays. -/
theorem blk_6_13 (c : Dev nD) (t : Fin cfg0.N) (k : Fin 1024) (l : Fin 512) :
    (show FVec Ideal S1024x1536 .bf16 from iblk m c 6 t) (ix2 k ⟨512 + l, by omega⟩)
      = (show FVec Ideal S1024x3088 .f32 from m ((c : Thread nD τ).loc main_arg2)) (ix2 k ⟨2064 + l, by omega⟩) := by
  refine (whole_6 m c t k ⟨512 + l, by omega⟩).trans ?_
  simp only [V, hostOps0, hostOps0_1, hostOps0_2, hostOps0_3, hostOps0_4, List.flatten_cons, List.flatten_nil, List.append_nil,
    List.cons_append, List.nil_append]
  entry_read
  pointwise
  exact congrArg _ (congrArg (ix2 k) (Fin.ext (by show 1552 + (512 + (l : ℕ)) = 2064 + l; omega)))

/-- The columns of window 6's block that output 14 uses, from the argument arrays. -/
theorem blk_6_14 (c : Dev nD) (t : Fin cfg0.N) (k : Fin 1024) (l : Fin 512) :
    (show FVec Ideal S1024x1536 .bf16 from iblk m c 6 t) (ix2 k ⟨1024 + l, by omega⟩)
      = (show FVec Ideal S1024x3088 .f32 from m ((c : Thread nD τ).loc main_arg2)) (ix2 k ⟨2576 + l, by omega⟩) := by
  refine (whole_6 m c t k ⟨1024 + l, by omega⟩).trans ?_
  simp only [V, hostOps0, hostOps0_1, hostOps0_2, hostOps0_3, hostOps0_4, List.flatten_cons, List.flatten_nil, List.append_nil,
    List.cons_append, List.nil_append]
  entry_read
  pointwise
  exact congrArg _ (congrArg (ix2 k) (Fin.ext (by show 1552 + (1024 + (l : ℕ)) = 2576 + l; omega)))

/-- The first 16 columns of the block that window 3 reads, from the argument arrays. -/
theorem blk_3 (c : Dev nD) (t : Fin cfg0.N) (k : Fin 1024) (j : Fin 128) (h : j.val < 16) :
    (show FVec Ideal S1024x128 .bf16 from iblk m c 3 t) (ix2 k j)
      = (show FVec Ideal S1024x3088 .f32 from m ((c : Thread nD τ).loc main_arg2)) (ix2 k ⟨1024 + j, by omega⟩) := by
  refine (whole_3 m c t k j).trans ?_
  simp only [V, hostOps0, hostOps0_1, hostOps0_2, hostOps0_3, hostOps0_4, List.flatten_cons, List.flatten_nil, List.append_nil,
    List.cons_append, List.nil_append]
  entry_read
  show pad S1024x128 ![0, 0] ![0, 112] ![0, 0] (extractStridedSlice S1024x16 ![0, 1024] (show FVec Ideal S1024x3088 .f32 from m ((c : Thread nD τ).loc main_arg2))
    slices_S1024x3088_S1024x16_0_1024) (sitofp FTy.f32 (constantI S_ 32 0#32)) pads_S1024x16_S1024x128_000_01120 h_S_ (ix2 k j) = _
  pointwise
  exact dif_pos h

/-- The block that window 4 reads: the gate's 16 rows of weights, zeros below them. -/
theorem blk_4 (c : Dev nD) (t : Fin cfg0.N) (j : Fin 128) (l : Fin 256) :
    (show FVec Ideal S128x256 .bf16 from iblk m c 4 t) (ix2 j l)
      = if h : j.val < 16 then (show FVec Ideal S16x256 .f32 from m ((c : Thread nD τ).loc main_arg3)) (ix2 ⟨j, h⟩ l) else 0 := by
  refine (whole_4 m c t j l).trans ?_
  simp only [V, hostOps0, hostOps0_1, hostOps0_2, hostOps0_3, hostOps0_4, List.flatten_cons, List.flatten_nil, List.append_nil,
    List.cons_append, List.nil_append]
  entry_read
  show pad S128x256 ![0, 0] ![112, 0] ![0, 0] (show FVec Ideal S16x256 .f32 from m ((c : Thread nD τ).loc main_arg3)) (sitofp FTy.f32 (constantI S_ 32 0#32))
    pads_S16x256_S128x256_01120_000 h_S_ (ix2 j l) = _
  pointwise
  by_cases h : j.val < 16
  · rw [dif_pos h, dif_pos h]
  · rw [dif_neg h, dif_neg h]; exact pad_zero

/-- Where an entry stored through window 7 goes in its array. -/
theorem emb_7 (t : Fin cfg0.N) (r : Fin 512) (l : Fin 256) :
    (((cfg0.win 7).blk t).view.emb (ix2 r l : S512x256.Idx) : S32768x256.Idx) = ix2 ⟨t * 512 + r, row_lt t r⟩ l := by
  blk_ext [idx t]

/-- After the whole grid this output holds the reference's columns from 0 on. -/
theorem final7 (c : Dev nD) : (dats m 0 c).arrAt 7 (cfgs 0).N = Reference2Ideal.Math.glaQuery (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  have hy : y = (ix2 (y 0) (y 1) : S512x256.Idx) := eq_ix2 y
  rw [hy]
  refine Eq.trans (out7_at (iblk m c 0 t) (iblk m c 1 t) (iblk m c 2 t) (iblk m c 3 t) (iblk m c 4 t) (iblk m c 5 t) (iblk m c 6 t) (y 0) (y 1)) (Eq.trans ?_ (congrArg _ (emb_7 t (y 0) (y 1)).symm))
  exact (congr (congrArg₂ normDot (funext fun k => blk_0 m c t (y 0) k) (funext fun k => blk_1 m c t k)) (funext fun k => blk_2_7 m c t k (y 1))).trans
    (Reference2Ideal.Math.glaQuery_at _ _ _ ⟨t * 512 + y 0, row_lt t (y 0)⟩ (y 1)).symm

/-- Where an entry stored through window 8 goes in its array. -/
theorem emb_8 (t : Fin cfg0.N) (r : Fin 512) (l : Fin 256) :
    (((cfg0.win 8).blk t).view.emb (ix2 r l : S512x256.Idx) : S32768x256.Idx) = ix2 ⟨t * 512 + r, row_lt t r⟩ l := by
  blk_ext [idx t]

/-- After the whole grid this output holds the reference's columns from 256 on. -/
theorem final8 (c : Dev nD) : (dats m 0 c).arrAt 8 (cfgs 0).N = Reference2Ideal.Math.glaKey (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  have hy : y = (ix2 (y 0) (y 1) : S512x256.Idx) := eq_ix2 y
  rw [hy]
  refine Eq.trans (out8_at (iblk m c 0 t) (iblk m c 1 t) (iblk m c 2 t) (iblk m c 3 t) (iblk m c 4 t) (iblk m c 5 t) (iblk m c 6 t) (y 0) (y 1)) (Eq.trans ?_ (congrArg _ (emb_8 t (y 0) (y 1)).symm))
  exact (congr (congrArg₂ normDot (funext fun k => blk_0 m c t (y 0) k) (funext fun k => blk_1 m c t k)) (funext fun k => blk_2_8 m c t k (y 1))).trans
    (Reference2Ideal.Math.glaKey_at _ _ _ ⟨t * 512 + y 0, row_lt t (y 0)⟩ (y 1)).symm

/-- Where an entry stored through window 10 goes in its array. -/
theorem emb_10 (t : Fin cfg0.N) (r : Fin 512) (l : Fin 512) :
    (((cfg0.win 10).blk t).view.emb (ix2 r l : S512x512.Idx) : S32768x512.Idx) = ix2 ⟨t * 512 + r, row_lt t r⟩ l := by
  blk_ext [idx t]

/-- After the whole grid this output holds the reference's columns from 512 on. -/
theorem final10 (c : Dev nD) : (dats m 0 c).arrAt 10 (cfgs 0).N = Reference2Ideal.Math.glaValue (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  have hy : y = (ix2 (y 0) (y 1) : S512x512.Idx) := eq_ix2 y
  rw [hy]
  refine Eq.trans (out10_at (iblk m c 0 t) (iblk m c 1 t) (iblk m c 2 t) (iblk m c 3 t) (iblk m c 4 t) (iblk m c 5 t) (iblk m c 6 t) (y 0) (y 1)) (Eq.trans ?_ (congrArg _ (emb_10 t (y 0) (y 1)).symm))
  exact (congr (congrArg₂ normDot (funext fun k => blk_0 m c t (y 0) k) (funext fun k => blk_1 m c t k)) (funext fun k => blk_2_10 m c t k (y 1))).trans
    (Reference2Ideal.Math.glaValue_at _ _ _ ⟨t * 512 + y 0, row_lt t (y 0)⟩ (y 1)).symm

/-- Where an entry stored through window 11 goes in its array. -/
theorem emb_11 (t : Fin cfg0.N) (r : Fin 512) (l : Fin 512) :
    (((cfg0.win 11).blk t).view.emb (ix2 r l : S512x512.Idx) : S32768x512.Idx) = ix2 ⟨t * 512 + r, row_lt t r⟩ l := by
  blk_ext [idx t]

/-- After the whole grid this output holds the reference's columns from 1040 on. -/
theorem final11 (c : Dev nD) : (dats m 0 c).arrAt 11 (cfgs 0).N = Reference2Ideal.Math.glaGate (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  have hy : y = (ix2 (y 0) (y 1) : S512x512.Idx) := eq_ix2 y
  rw [hy]
  refine Eq.trans (out11_at (iblk m c 0 t) (iblk m c 1 t) (iblk m c 2 t) (iblk m c 3 t) (iblk m c 4 t) (iblk m c 5 t) (iblk m c 6 t) (y 0) (y 1)) (Eq.trans ?_ (congrArg _ (emb_11 t (y 0) (y 1)).symm))
  exact (congr (congrArg₂ normDot (funext fun k => blk_0 m c t (y 0) k) (funext fun k => blk_1 m c t k)) (funext fun k => blk_2_11 m c t k (y 1))).trans
    (Reference2Ideal.Math.glaGate_at _ _ _ ⟨t * 512 + y 0, row_lt t (y 0)⟩ (y 1)).symm

/-- Where an entry stored through window 12 goes in its array. -/
theorem emb_12 (t : Fin cfg0.N) (r : Fin 512) (l : Fin 512) :
    (((cfg0.win 12).blk t).view.emb (ix2 r l : S512x512.Idx) : S32768x512.Idx) = ix2 ⟨t * 512 + r, row_lt t r⟩ l := by
  blk_ext [idx t]

/-- After the whole grid this output holds the reference's columns from 1552 on. -/
theorem final12 (c : Dev nD) : (dats m 0 c).arrAt 12 (cfgs 0).N = Reference2Ideal.Math.attQuery (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  have hy : y = (ix2 (y 0) (y 1) : S512x512.Idx) := eq_ix2 y
  rw [hy]
  refine Eq.trans (out12_at (iblk m c 0 t) (iblk m c 1 t) (iblk m c 2 t) (iblk m c 3 t) (iblk m c 4 t) (iblk m c 5 t) (iblk m c 6 t) (y 0) (y 1)) (Eq.trans ?_ (congrArg _ (emb_12 t (y 0) (y 1)).symm))
  exact (congr (congrArg₂ normDot (funext fun k => blk_0 m c t (y 0) k) (funext fun k => blk_1 m c t k)) (funext fun k => blk_6_12 m c t k (y 1))).trans
    (Reference2Ideal.Math.attQuery_at _ _ _ ⟨t * 512 + y 0, row_lt t (y 0)⟩ (y 1)).symm

/-- Where an entry stored through window 13 goes in its array. -/
theorem emb_13 (t : Fin cfg0.N) (r : Fin 512) (l : Fin 512) :
    (((cfg0.win 13).blk t).view.emb (ix2 r l : S512x512.Idx) : S32768x512.Idx) = ix2 ⟨t * 512 + r, row_lt t r⟩ l := by
  blk_ext [idx t]

/-- After the whole grid this output holds the reference's columns from 2064 on. -/
theorem final13 (c : Dev nD) : (dats m 0 c).arrAt 13 (cfgs 0).N = Reference2Ideal.Math.attKey (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  have hy : y = (ix2 (y 0) (y 1) : S512x512.Idx) := eq_ix2 y
  rw [hy]
  refine Eq.trans (out13_at (iblk m c 0 t) (iblk m c 1 t) (iblk m c 2 t) (iblk m c 3 t) (iblk m c 4 t) (iblk m c 5 t) (iblk m c 6 t) (y 0) (y 1)) (Eq.trans ?_ (congrArg _ (emb_13 t (y 0) (y 1)).symm))
  exact (congr (congrArg₂ normDot (funext fun k => blk_0 m c t (y 0) k) (funext fun k => blk_1 m c t k)) (funext fun k => blk_6_13 m c t k (y 1))).trans
    (Reference2Ideal.Math.attKey_at _ _ _ ⟨t * 512 + y 0, row_lt t (y 0)⟩ (y 1)).symm

/-- Where an entry stored through window 14 goes in its array. -/
theorem emb_14 (t : Fin cfg0.N) (r : Fin 512) (l : Fin 512) :
    (((cfg0.win 14).blk t).view.emb (ix2 r l : S512x512.Idx) : S32768x512.Idx) = ix2 ⟨t * 512 + r, row_lt t r⟩ l := by
  blk_ext [idx t]

/-- After the whole grid this output holds the reference's columns from 2576 on. -/
theorem final14 (c : Dev nD) : (dats m 0 c).arrAt 14 (cfgs 0).N = Reference2Ideal.Math.attValue (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]
  have hy : y = (ix2 (y 0) (y 1) : S512x512.Idx) := eq_ix2 y
  rw [hy]
  refine Eq.trans (out14_at (iblk m c 0 t) (iblk m c 1 t) (iblk m c 2 t) (iblk m c 3 t) (iblk m c 4 t) (iblk m c 5 t) (iblk m c 6 t) (y 0) (y 1)) (Eq.trans ?_ (congrArg _ (emb_14 t (y 0) (y 1)).symm))
  exact (congr (congrArg₂ normDot (funext fun k => blk_0 m c t (y 0) k) (funext fun k => blk_1 m c t k)) (funext fun k => blk_6_14 m c t k (y 1))).trans
    (Reference2Ideal.Math.attValue_at _ _ _ ⟨t * 512 + y 0, row_lt t (y 0)⟩ (y 1)).symm

/-- Only the first sixteen of the padded rank's columns count. -/
theorem rank_sum (f : Fin 128 → EReal) (g : Fin 16 → EReal) (h : ∀ j : Fin 128, f j = if h : j.val < 16 then g ⟨j, h⟩ else 0) :
    ∑ j, f j = ∑ j, g j := by
  have e : ∑ j : Fin (16 + 112), f j = ∑ j : Fin 16, f (Fin.castAdd 112 j) + ∑ j : Fin 112, f (Fin.natAdd 16 j) := Fin.sum_univ_add _
  refine e.trans ?_
  rw [Finset.sum_eq_zero (s := Finset.univ (α := Fin 112)), add_zero]
  · exact Finset.sum_congr rfl fun j _ => (h _).trans (dif_pos j.isLt)
  · exact fun j _ => (h _).trans (dif_neg (by simp))

/-- Where an entry stored through window 9 goes in its array. -/
theorem emb_9 (t : Fin cfg0.N) (r : Fin 512) (l : Fin 256) :
    (((cfg0.win 9).blk t).view.emb (ix2 r l : S512x256.Idx) : S32768x256.Idx) = ix2 ⟨t * 512 + r, row_lt t r⟩ l := by
  blk_ext [idx t]

/-- After the whole grid this output holds the reference's logarithm of the gate. -/
theorem final9 (c : Dev nD) : (dats m 0 c).arrAt 9 (cfgs 0).N = Reference2Ideal.Math.logDecay (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]
  have hy : y = (ix2 (y 0) (y 1) : S512x256.Idx) := eq_ix2 y
  rw [hy]
  refine Eq.trans (out9_at (iblk m c 0 t) (iblk m c 1 t) (iblk m c 2 t) (iblk m c 3 t) (iblk m c 4 t) (iblk m c 5 t) (iblk m c 6 t) (y 0) (y 1)) (Eq.trans ?_ (congrArg _ (emb_9 t (y 0) (y 1)).symm))
  refine Eq.trans (congrArg logGate (congrArg₂ (· + ·) ?_ (blk_5 m c t (y 1))))
    (Reference2Ideal.Math.logDecay_at _ _ _ _ _ ⟨t * 512 + y 0, row_lt t (y 0)⟩ (y 1)).symm
  refine rank_sum _ _ fun j => ?_
  refine (congrArg (_ * ·) (blk_4 m c t j (y 1))).trans ?_
  by_cases h : j.val < 16
  · rw [dif_pos h, dif_pos h]
    exact congrArg (· * _) (congr (congrArg₂ normDot (funext fun k => blk_0 m c t (y 0) k) (funext fun k => blk_1 m c t k)) (funext fun k => blk_3 m c t k j h))
  · rw [dif_neg h, dif_neg h, mul_zero]

end Cert.Kernel2Ideal.Math
-- ==== Proof.MixMath.lean ====
/- The output projection, the residual, the norm and the query projection, read at an index: the formulas of one row, the
   kernel's stored blocks as these formulas. -/
module

public import proofs.«01_k».proof.Proof.PleMath
public import proofs.«01_k».proof.Proof.Gen.Kernel3Ideal.Value
public import proofs.«01_k».proof.Proof.Gen.Reference3Ideal.Run

@[expose] public section

set_option maxRecDepth 16384

noncomputable section

open Idealize.ShloMosaic Idealize.ShloMosaic.TcCoe Idealize.SL.Sem
open Idealize.ShloMosaic.Pipeline (Dat)

namespace Cert.Layer

/-- One row of the residual stream after the two mixers' outputs, side by side, pass the output projection. -/
def mixRow (og oa : Fin 512 → EReal) (h : Fin 1024 → EReal) (w : Fin 1024 → Fin 1024 → EReal) (l : Fin 1024) : EReal :=
  h l + (∑ k : Fin 512, og k * w ⟨k, by omega⟩ l + ∑ k : Fin 512, oa k * w ⟨512 + k, by omega⟩ l)

/-- One row of the queries: the normed row times the query weights. -/
def queryRow (x g : Fin 1024 → EReal) (wq : Fin 1024 → Fin 2048 → EReal) (l : Fin 2048) : EReal :=
  ∑ k, rmsRow x g k * wq k l

end Cert.Layer

namespace Cert.Kernel3Ideal.Math

open Cert.Kernel3Ideal Cert.Kernel3Ideal.Gen Cert.Layer

/-- The kernel's first stored array, at an index. -/
theorem out6_at (x0 x1 : FVec Ideal S512x512 .bf16) (x2 : FVec Ideal S512x1024 .f32) (x3 : FVec Ideal S1024x1024 .bf16)
    (x4 : FVec Ideal S1x1024 .f32) (x5 : FVec Ideal S1024x2048 .bf16) (r : Fin 512) (l : Fin 1024) :
    out0_6 (F := Ideal) x0 x1 x2 x3 x4 x5 (ix2 r l)
      = mixRow (fun k => x0 (ix2 r k)) (fun k => x1 (ix2 r k)) (fun k => x2 (ix2 r k)) (fun k l => x3 (ix2 k l)) l := by
  frame_out
  pointwise [k0_pay4, mixRow]

/-- The kernel's second stored array, at an index. -/
theorem out7_at (x0 x1 : FVec Ideal S512x512 .bf16) (x2 : FVec Ideal S512x1024 .f32) (x3 : FVec Ideal S1024x1024 .bf16)
    (x4 : FVec Ideal S1x1024 .f32) (x5 : FVec Ideal S1024x2048 .bf16) (r : Fin 512) (l : Fin 1024) :
    out0_7 (F := Ideal) x0 x1 x2 x3 x4 x5 (ix2 r l)
      = rmsRow (mixRow (fun k => x0 (ix2 r k)) (fun k => x1 (ix2 r k)) (fun k => x2 (ix2 r k)) (fun k l => x3 (ix2 k l)))
          (fun k => x4 (ix2 0 k)) l := by
  frame_out
  pointwise [k0_pay5, k0_pay4, mixRow, rmsRow]

/-- The kernel's third stored array, at an index. -/
theorem out8_at (x0 x1 : FVec Ideal S512x512 .bf16) (x2 : FVec Ideal S512x1024 .f32) (x3 : FVec Ideal S1024x1024 .bf16)
    (x4 : FVec Ideal S1x1024 .f32) (x5 : FVec Ideal S1024x2048 .bf16) (i : Fin 16) (r : Fin 512) (l : Fin 128) :
    out0_8 (F := Ideal) x0 x1 x2 x3 x4 x5 (ix3 i r l)
      = queryRow (mixRow (fun k => x0 (ix2 r k)) (fun k => x1 (ix2 r k)) (fun k => x2 (ix2 r k)) (fun k l => x3 (ix2 k l)))
          (fun k => x4 (ix2 0 k)) (fun k l => x5 (ix2 k l)) ⟨i * 128 + l, by omega⟩ := by
  unfold out0_8 k0_pay22
  refine (Value.canon8_eq _ _ _ _ _ _ _ _).trans ?_
  pointwise [Value.E8, k0_pay6, k0_pay5, k0_pay4, queryRow, rmsRow, mixRow]

end Cert.Kernel3Ideal.Math

namespace Cert.Reference3Ideal.Math

open Cert.Reference3Ideal Cert.Reference3Ideal.Gen Cert.Layer

/-- The reference's first result: the residual stream. -/
def stream (a0 a1 : FVec Ideal S32768x512 .bf16) (a2 : FVec Ideal S32768x1024 .f32) (a3 : FVec Ideal S1024x1024 .f32) : FVec Ideal S32768x1024 .f32 :=
  addf a2 (Host.dotGeneral dot_S32768x1024_S1024x1024_S32768x1024_1_0_0_1_n_n none (concatenate S32768x1024 1 [⟨S32768x512, (extf .f32 a0 bitsLt_bf16_f32)⟩, ⟨S32768x512, (extf .f32 a1 bitsLt_bf16_f32)⟩] concatenates_S32768x512_S32768x512_S32768x1024_d1) a3)

/-- The reference's second result: the normed stream. -/
def normed (a0 a1 : FVec Ideal S32768x512 .bf16) (a2 : FVec Ideal S32768x1024 .f32) (a3 : FVec Ideal S1024x1024 .f32)
    (a4 : FVec Ideal S1024 .f32) : FVec Ideal S32768x1024 .f32 :=
  let s1 := stream a0 a1 a2 a3
  mulf (mulf s1 (broadcastInDim S32768x1024 ![0, 1] bcast_S32768x1_S32768x1024_0_1 (Host.rsqrt (addf (Host.divf (broadcastInDim S32768x1 ![0] bcast_S32768_S32768x1_0 (Host.reduceAdd (mulf s1 s1) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a4))

/-- The reference's third result: the queries, one plane for each head's half. -/
def queries (a0 a1 : FVec Ideal S32768x512 .bf16) (a2 : FVec Ideal S32768x1024 .f32) (a3 : FVec Ideal S1024x1024 .f32)
    (a4 : FVec Ideal S1024 .f32) (a5 : FVec Ideal S1024x2048 .f32) : FVec Ideal S16x32768x128 .bf16 :=
  let x1 := normed a0 a1 a2 a3 a4
  truncf .bf16 (shapeCast _ (transpose S8x2x32768x128 [1, 2, 0, 3] (shapeCast _ (Host.dotGeneral dot_S32768x1024_S1024x2048_S32768x2048_1_0_0_1_n_n none x1 a5) shapeCasts_S32768x2048_S32768x8x2x128) transposes_S32768x8x2x128_S8x2x32768x128_1_2_0_3) shapeCasts_S8x2x32768x128_S16x32768x128) bitsLt_bf16_f32

/-- The reference's stream, at an index. -/
theorem stream_at (a0 a1 : FVec Ideal S32768x512 .bf16) (a2 : FVec Ideal S32768x1024 .f32) (a3 : FVec Ideal S1024x1024 .f32)
    (r : Fin 32768) (l : Fin 1024) :
    stream a0 a1 a2 a3 (ix2 r l)
      = mixRow (fun k => a0 (ix2 r k)) (fun k => a1 (ix2 r k)) (fun k => a2 (ix2 r k)) (fun k l => a3 (ix2 k l)) l := by
  pointwise [stream, mixRow]

/-- The reference's normalised stream, at an index. -/
theorem normed_at (a0 a1 : FVec Ideal S32768x512 .bf16) (a2 : FVec Ideal S32768x1024 .f32) (a3 : FVec Ideal S1024x1024 .f32)
    (a4 : FVec Ideal S1024 .f32) (r : Fin 32768) (l : Fin 1024) :
    normed a0 a1 a2 a3 a4 (ix2 r l)
      = rmsRow (mixRow (fun k => a0 (ix2 r k)) (fun k => a1 (ix2 r k)) (fun k => a2 (ix2 r k)) (fun k l => a3 (ix2 k l)))
          (fun k => a4 (ix1 k)) l := by
  pointwise [normed, stream_at, rmsRow]

/-- The reference's expert queries, at an index. -/
theorem queries_at (a0 a1 : FVec Ideal S32768x512 .bf16) (a2 : FVec Ideal S32768x1024 .f32) (a3 : FVec Ideal S1024x1024 .f32)
    (a4 : FVec Ideal S1024 .f32) (a5 : FVec Ideal S1024x2048 .f32) (i : Fin 16) (r : Fin 32768) (l : Fin 128) :
    queries a0 a1 a2 a3 a4 a5 (ix3 i r l)
      = queryRow (mixRow (fun k => a0 (ix2 r k)) (fun k => a1 (ix2 r k)) (fun k => a2 (ix2 r k)) (fun k l => a3 (ix2 k l)))
          (fun k => a4 (ix1 k)) (fun k l => a5 (ix2 k l)) ⟨i * 128 + l, by omega⟩ := by
  pointwise [queries, normed_at, queryRow]
  have h : (⟨(i : ℕ) / 2 * 256 + (i : ℕ) % 2 * 128 + (l : ℕ), by omega⟩ : Fin 2048) = ⟨i * 128 + l, by omega⟩ :=
    Fin.ext (by show (i : ℕ) / 2 * 256 + (i : ℕ) % 2 * 128 + (l : ℕ) = i * 128 + l; omega)
  simp only [h]

end Cert.Reference3Ideal.Math
-- ==== Proof.Mix.lean ====
/- The arrays the output-projection kernel returns are the reference's. -/
module

public import proofs.«01_k».proof.Proof.MixMath
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)

namespace Cert.Kernel3Ideal.Math

open Cert.Kernel3Ideal Cert.Kernel3Ideal.Gen Cert.Layer

variable (m : (ℓ : Loc nD τ sig) → Buf (Elt Ideal) ℓ)

/-- Which block each window reads or writes at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, t.val, 0] :=
  (by decide +kernel : ∀ t : Fin grid0.N, _)

/-- A grid point's rows are rows of the array. -/
theorem row_lt (t : Fin cfg0.N) (r : Fin 512) : (t : ℕ) * 512 + r < 32768 := by
  have h : (t : ℕ) < 64 := t.isLt
  omega

/-- The block that window 0 reads at a grid point, from the argument arrays. -/
theorem blk_0 (c : Dev nD) (t : Fin cfg0.N) (r : Fin 512) (k : Fin 512) :
    (show FVec Ideal S512x512 .bf16 from iblk m c 0 t) (ix2 r k)
      = (show FVec Ideal S32768x512 .bf16 from m ((c : Thread nD τ).loc main_arg0)) (ix2 ⟨t * 512 + r, row_lt t r⟩ k) := by
  blk_point [iblk, V, idx t]

/-- The block that window 1 reads at a grid point, from the argument arrays. -/
theorem blk_1 (c : Dev nD) (t : Fin cfg0.N) (r : Fin 512) (k : Fin 512) :
    (show FVec Ideal S512x512 .bf16 from iblk m c 1 t) (ix2 r k)
      = (show FVec Ideal S32768x512 .bf16 from m ((c : Thread nD τ).loc main_arg1)) (ix2 ⟨t * 512 + r, row_lt t r⟩ k) := by
  blk_point [iblk, V, idx t]

/-- The block that window 2 reads at a grid point, from the argument arrays. -/
theorem blk_2 (c : Dev nD) (t : Fin cfg0.N) (r : Fin 512) (k : Fin 1024) :
    (show FVec Ideal S512x1024 .f32 from iblk m c 2 t) (ix2 r k)
      = (show FVec Ideal S32768x1024 .f32 from m ((c : Thread nD τ).loc main_arg2)) (ix2 ⟨t * 512 + r, row_lt t r⟩ k) := by
  blk_point [iblk, V, idx t]

/-- The block that window 3 reads at a grid point, from the argument arrays. -/
theorem blk_3 (c : Dev nD) (t : Fin cfg0.N) (k l : Fin 1024) :
    (show FVec Ideal S1024x1024 .bf16 from iblk m c 3 t) (ix2 k l)
      = (show FVec Ideal S1024x1024 .f32 from m ((c : Thread nD τ).loc main_arg3)) (ix2 k l) := by
  blk_point [iblk, idx t]

/-- The block that window 4 reads at a grid point, from the argument arrays. -/
theorem blk_4 (c : Dev nD) (t : Fin cfg0.N) (k : Fin 1024) :
    (show FVec Ideal S1x1024 .f32 from iblk m c 4 t) (ix2 0 k)
      = (show FVec Ideal S1024 .f32 from m ((c : Thread nD τ).loc main_arg4)) (ix1 k) := by
  blk_point [iblk, idx t]

/-- The block that window 5 reads at a grid point, from the argument arrays. -/
theorem blk_5 (c : Dev nD) (t : Fin cfg0.N) (k : Fin 1024) (l : Fin 2048) :
    (show FVec Ideal S1024x2048 .bf16 from iblk m c 5 t) (ix2 k l)
      = (show FVec Ideal S1024x2048 .f32 from m ((c : Thread nD τ).loc main_arg5)) (ix2 k l) := by
  blk_point [iblk, idx t]

/-- The stream's row in the blocks of a point is the row of the arrays it stands for. -/
theorem mix_blk (c : Dev nD) (t : Fin cfg0.N) (r : Fin 512) :
    mixRow (fun k => (show FVec Ideal S512x512 .bf16 from iblk m c 0 t) (ix2 r k)) (fun k => (show FVec Ideal S512x512 .bf16 from iblk m c 1 t) (ix2 r k))
        (fun k => (show FVec Ideal S512x1024 .f32 from iblk m c 2 t) (ix2 r k)) (fun k l => (show FVec Ideal S1024x1024 .bf16 from iblk m c 3 t) (ix2 k l))
      = mixRow (fun k => (show FVec Ideal S32768x512 .bf16 from m ((c : Thread nD τ).loc main_arg0)) (ix2 ⟨t * 512 + r, row_lt t r⟩ k))
          (fun k => (show FVec Ideal S32768x512 .bf16 from m ((c : Thread nD τ).loc main_arg1)) (ix2 ⟨t * 512 + r, row_lt t r⟩ k))
          (fun k => (show FVec Ideal S32768x1024 .f32 from m ((c : Thread nD τ).loc main_arg2)) (ix2 ⟨t * 512 + r, row_lt t r⟩ k))
          (fun k l => (show FVec Ideal S1024x1024 .f32 from m ((c : Thread nD τ).loc main_arg3)) (ix2 k l)) :=
  congr (congr (congrArg₂ mixRow (funext fun k => blk_0 m c t r k) (funext fun k => blk_1 m c t r k)) (funext fun k => blk_2 m c t r k))
    (funext fun k => funext fun l => blk_3 m c t k l)

/-- Where an entry stored through window 6 goes in its array. -/
theorem emb_6 (t : Fin cfg0.N) (r : Fin 512) (l : Fin 1024) :
    (((cfg0.win 6).blk t).view.emb (ix2 r l : S512x1024.Idx) : S32768x1024.Idx) = ix2 ⟨t * 512 + r, row_lt t r⟩ l := by
  blk_ext [idx t]

/-- Where an entry stored through window 7 goes in its array. -/
theorem emb_7 (t : Fin cfg0.N) (r : Fin 512) (l : Fin 1024) :
    (((cfg0.win 7).blk t).view.emb (ix2 r l : S512x1024.Idx) : S32768x1024.Idx) = ix2 ⟨t * 512 + r, row_lt t r⟩ l := by
  blk_ext [idx t]

/-- Where an entry stored through window 8 goes in its array. -/
theorem emb_8 (t : Fin cfg0.N) (i : Fin 16) (r : Fin 512) (l : Fin 128) :
    (((cfg0.win 8).blk t).view.emb (ix3 i r l : S16x512x128.Idx) : S16x32768x128.Idx) = ix3 i ⟨t * 512 + r, row_lt t r⟩ l := by
  blk_ext [idx t]

/-- After the whole grid the first output holds the reference's stream. -/
theorem final6 (c : Dev nD) : (dats m 0 c).arrAt 6 (cfgs 0).N = Reference3Ideal.Math.stream (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  have hy : y = (ix2 (y 0) (y 1) : S512x1024.Idx) := eq_ix2 y
  rw [hy]
  refine Eq.trans (out6_at (iblk m c 0 t) (iblk m c 1 t) (iblk m c 2 t) (iblk m c 3 t) (iblk m c 4 t) (iblk m c 5 t) (y 0) (y 1)) (Eq.trans ?_ (congrArg _ (emb_6 t (y 0) (y 1)).symm))
  exact (congrFun (mix_blk m c t (y 0)) (y 1)).trans (Reference3Ideal.Math.stream_at _ _ _ _ ⟨t * 512 + y 0, row_lt t (y 0)⟩ (y 1)).symm

/-- After the whole grid the second output holds the reference's normed stream. -/
theorem final7 (c : Dev nD) : (dats m 0 c).arrAt 7 (cfgs 0).N = Reference3Ideal.Math.normed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  have hy : y = (ix2 (y 0) (y 1) : S512x1024.Idx) := eq_ix2 y
  rw [hy]
  refine Eq.trans (out7_at (iblk m c 0 t) (iblk m c 1 t) (iblk m c 2 t) (iblk m c 3 t) (iblk m c 4 t) (iblk m c 5 t) (y 0) (y 1)) (Eq.trans ?_ (congrArg _ (emb_7 t (y 0) (y 1)).symm))
  exact (congrFun (congrArg₂ rmsRow (mix_blk m c t (y 0)) (funext fun k => blk_4 m c t k)) (y 1)).trans
    (Reference3Ideal.Math.normed_at _ _ _ _ _ ⟨t * 512 + y 0, row_lt t (y 0)⟩ (y 1)).symm

/-- After the whole grid the third output holds the reference's queries. -/
theorem final8 (c : Dev nD) : (dats m 0 c).arrAt 8 (cfgs 0).N = Reference3Ideal.Math.queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  have hy : y = (ix3 (y 0) (y 1) (y 2) : S16x512x128.Idx) := eq_ix3 y
  rw [hy]
  refine Eq.trans (out8_at (iblk m c 0 t) (iblk m c 1 t) (iblk m c 2 t) (iblk m c 3 t) (iblk m c 4 t) (iblk m c 5 t) (y 0) (y 1) (y 2)) (Eq.trans ?_ (congrArg _ (emb_8 t (y 0) (y 1) (y 2)).symm))
  exact (congrFun (congr (congrArg₂ queryRow (mix_blk m c t (y 1)) (funext fun k => blk_4 m c t k))
      (funext fun k => funext fun l => blk_5 m c t k l)) _).trans
    (Reference3Ideal.Math.queries_at _ _ _ _ _ _ (y 0) ⟨t * 512 + y 1, row_lt t (y 1)⟩ (y 2)).symm

end Cert.Kernel3Ideal.Math
-- ==== Proof.Ple.lean ====
/- The array the gated embedding's kernel returns is the reference's. -/
module

public import proofs.«01_k».proof.Proof.PleMath
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Math

open Cert.Kernel4Ideal Cert.Kernel4Ideal.Gen Cert.Layer

variable (m : (ℓ : Loc nD τ sig) → Buf (Elt Ideal) ℓ)

/-- Which block each window reads or writes at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- A grid point's rows are rows of the array. -/
theorem row_lt (t : Fin cfg0.N) (r : Fin 512) : (t : ℕ) * 512 + r < 32768 := by
  have h : (t : ℕ) < 64 := t.isLt
  omega

/-- The block of the residual stream. -/
theorem blk_h (c : Dev nD) (t : Fin cfg0.N) (r : Fin 512) (k : Fin 1024) :
    (show FVec Ideal S512x1024 .f32 from iblk m c 0 t) (ix2 r k)
      = (show FVec Ideal S32768x1024 .f32 from m ((c : Thread nD τ).loc main_arg0)) (ix2 ⟨t * 512 + r, row_lt t r⟩ k) := by
  blk_point [iblk, V, idx t]

/-- The block of the per-token embeddings. -/
theorem blk_p (c : Dev nD) (t : Fin cfg0.N) (r : Fin 512) (k : Fin 256) :
    (show FVec Ideal S512x256 .f32 from iblk m c 1 t) (ix2 r k)
      = (show FVec Ideal S8x4096x256 .f32 from m ((c : Thread nD τ).loc main_arg1))
          (ix3 ⟨(t * 512 + r) / 4096, by have := row_lt t r; omega⟩ ⟨(t * 512 + r) % 4096, by omega⟩ k) := by
  blk_point [iblk, idx t]

/-- The block of the normalisation's weights. -/
theorem blk_g (c : Dev nD) (t : Fin cfg0.N) (k : Fin 1024) :
    (show FVec Ideal S1x1024 .f32 from iblk m c 2 t) (ix2 0 k)
      = (show FVec Ideal S1024 .f32 from m ((c : Thread nD τ).loc main_arg2)) (ix1 k) := by
  blk_point [iblk, idx t]

/-- The block of the gate's weights. -/
theorem blk_wg (c : Dev nD) (t : Fin cfg0.N) (k l : Fin 1024) :
    (show FVec Ideal S1024x1024 .bf16 from iblk m c 3 t) (ix2 k l)
      = (show FVec Ideal S1024x1024 .f32 from m ((c : Thread nD τ).loc main_arg3)) (ix2 k l) := by
  blk_point [iblk, idx t]

/-- The block of the embedding's weights. -/
theorem blk_wp (c : Dev nD) (t : Fin cfg0.N) (k : Fin 256) (l : Fin 1024) :
    (show FVec Ideal S256x1024 .bf16 from iblk m c 4 t) (ix2 k l)
      = (show FVec Ideal S256x1024 .f32 from m ((c : Thread nD τ).loc main_arg4)) (ix2 k l) := by
  blk_point [iblk, idx t]

/-- The block of the last normalisation's weights. -/
theorem blk_fin (c : Dev nD) (t : Fin cfg0.N) (k : Fin 1024) :
    (show FVec Ideal S1x1024 .f32 from iblk m c 5 t) (ix2 0 k)
      = (show FVec Ideal S1024 .f32 from m ((c : Thread nD τ).loc main_arg5)) (ix1 k) := by
  blk_point [iblk, idx t]

/-- Where element `(r, l)` of the block written at point `t` lies in the array. -/
theorem emb_out (t : Fin cfg0.N) (r : Fin 512) (l : Fin 1024) :
    (((cfg0.win 6).blk t).view.emb (ix2 r l : S512x1024.Idx) : S32768x1024.Idx) = ix2 ⟨t * 512 + r, row_lt t r⟩ l := by
  blk_ext [idx t]

/-- What the kernel stores at a point is the reference's result on the rows the point writes. -/
theorem point (c : Dev nD) (t : Fin cfg0.N) (r : Fin 512) (l : Fin 1024) :
    k0_pay1 (F := Ideal) (k0_pay2 (iblk m c 0 t) (iblk m c 2 t) (iblk m c 3 t) (iblk m c 1 t) (iblk m c 4 t)) (k0_pay3 (iblk m c 5 t))
        (k0_pay4 (iblk m c 0 t) (iblk m c 2 t) (iblk m c 3 t) (iblk m c 1 t) (iblk m c 4 t)) (ix2 r l)
      = Reference4Ideal.Math.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 ⟨t * 512 + r, row_lt t r⟩ l) := by
  refine (pay1_at (iblk m c 0 t) (iblk m c 2 t) (iblk m c 3 t) (iblk m c 1 t) (iblk m c 4 t) (iblk m c 5 t) r l).trans
    (Eq.trans ?_ (Reference4Ideal.Math.result_at _ _ _ _ _ _ ⟨t * 512 + r, row_lt t r⟩ l).symm)
  have e0 := funext fun k => blk_h m c t r k
  have e1 := funext fun k => blk_p m c t r k
  have e2 := funext fun k => blk_g m c t k
  have e3 := funext fun k => funext fun l => blk_wg m c t k l
  have e4 := funext fun k => funext fun l => blk_wp m c t k l
  have e5 := funext fun k => blk_fin m c t k
  exact congrFun (congrArg₂ rmsRow (congr (congr (congr (congrArg₂ pleRow e0 e1) e2) e3) e4) e5) l

/-- After the whole grid the output array holds the reference's result. -/
theorem final (c : Dev nD) : (dats m 0 c).arrAt 6 (cfgs 0).N
    = Reference4Ideal.Math.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]; frame_out
  have hy : y = (ix2 (y 0) (y 1) : S512x1024.Idx) := eq_ix2 y
  rw [hy]
  exact (point m c t (y 0) (y 1)).trans (congrArg _ (emb_out t (y 0) (y 1)).symm)

end Cert.Kernel4Ideal.Math
-- ==== Proof.GlaMath.lean ====
/- The gated linear attention, read at an index: the formulas of one head of one chunk, and the kernel's payloads as
   these formulas. -/
module

public import proofs.«01_k».proof.Proof.Gen.Kernel5Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Layer

/-- The sum of a lane's decays up to a row of the chunk. -/
def runSum (g : Fin 64 → EReal) (i : Fin 64) : EReal := ∑ j : Fin 64, if j.val ≤ i.val then g j else 0

/-- The score of row `i` against row `j` of a chunk for one head: query and key, each moved to the decay of the middle row. -/
def glaScore (q k a : Fin 64 → Fin 64 → EReal) (i j : Fin 64) : EReal :=
  ∑ d, (q i d * Ideal.ofBits .f32 0x3E000000#32 * Ideal.exp (a i d - a 32 d)) * (k j d * Ideal.exp (a 32 d - a j d))

/-- The attention of a row within its chunk, plus what it reads from the state before the chunk. -/
def glaMix (q k a : Fin 64 → Fin 64 → EReal) (v : Fin 64 → Fin 128 → EReal) (S : Fin 64 → Fin 128 → EReal) (i : Fin 64) (e : Fin 128) : EReal :=
  (∑ j, (if j.val ≤ i.val then glaScore q k a i j else 0) * v j e)
    + ∑ d, (q i d * Ideal.ofBits .f32 0x3E000000#32 * Ideal.exp (a i d)) * S d e

/-- The state after a chunk: the state before it, decayed over the whole chunk, plus the chunk's keys times its values. -/
def glaStep (k a : Fin 64 → Fin 64 → EReal) (v : Fin 64 → Fin 128 → EReal) (S : Fin 64 → Fin 128 → EReal) (d : Fin 64) (e : Fin 128) : EReal :=
  Ideal.exp (a 63 d) * S d e + ∑ j, (k j d * Ideal.exp (a 63 d - a j d)) * v j e

/-- A head's row divided by its root mean square, times the head weights. -/
def headNorm (o w : Fin 128 → EReal) (e : Fin 128) : EReal :=
  o e * Ideal.rsqrt (Ideal.div (∑ l, o l * o l) (Ideal.ofBits .f32 0x43000000#32) + Ideal.ofBits .f32 0x358637BD#32) * w e

/-- A number times its logistic function. -/
def silu (x : EReal) : EReal := x * Ideal.div 1 (1 + Ideal.exp (-x))

/-- A number below infinity plus its difference with itself is the number. -/
theorem add_self_sub {x : EReal} (h : x ≠ ⊤) : x + (x - x) = x := by
  induction x with
  | bot => rfl
  | coe r => rw [← EReal.coe_sub, sub_self]; simp
  | top => exact absurd rfl h

/-- A 0-1 weighted sum of decays taken in two parts. -/
theorem runSum_split (g : Fin 64 → EReal) (hg : ∀ j, g j ≠ ⊤) (i : Fin 64) (w : Fin 64 → EReal) (hw : ∀ j : Fin 64, w j = if j.val ≤ i.val then 1 else 0) :
    (∑ j, w j * g j) + (∑ j, w j * (g j - g j)) = runSum g i := by
  rw [← Finset.sum_add_distrib]
  refine Finset.sum_congr rfl fun j _ => ?_
  rw [hw]
  by_cases h : j.val ≤ i.val
  · rw [if_pos h, if_pos h, one_mul, one_mul, add_self_sub (hg j)]
  · rw [if_neg h, if_neg h, zero_mul, zero_mul, zero_add]

/-- A sum over 256 lanes of which only one head's 64 count. -/
theorem sum_head (f : Fin 256 → EReal) (h : Fin 4) :
    (∑ x : Fin 256, if x.val / 64 = h.val then f x else 0) = ∑ d : Fin 64, f ⟨h.val * 64 + d.val, by omega⟩ := by
  rw [← Finset.sum_filter]
  symm
  refine Finset.sum_nbij' (fun d => ⟨h.val * 64 + d.val, by omega⟩) (fun x => ⟨x.val % 64, by omega⟩) ?_ ?_ ?_ ?_ ?_
  · intro d _
    rw [Finset.mem_filter]
    exact ⟨Finset.mem_univ _, by show (h.val * 64 + d.val) / 64 = h.val; omega⟩
  · intro x _; exact Finset.mem_univ _
  · intro d _; exact Fin.ext (by show (h.val * 64 + d.val) % 64 = d.val; omega)
  · intro x hx
    rw [Finset.mem_filter] at hx
    exact Fin.ext (by show h.val * 64 + x.val % 64 = x.val; have := hx.2; omega)
  · intro d _; rfl

end Cert.Layer

namespace Cert.Kernel5Ideal.Math

open Cert.Kernel5Ideal Cert.Kernel5Ideal.Gen Cert.Layer

/-- The 0-1 matrix of the running sum: its entry. -/
theorem mask_word : ∀ i j : Fin 64, (BitVec.setWidth 32 (IntOp.cmpi CmpIPredicate.sle (BitVec.ofNat 32 j.val) (BitVec.ofNat 32 i.val))).toInt = if j.val ≤ i.val then 1 else 0 := by
  decide +kernel

/-- The kernel's running sum of the decays, taken in two parts. -/
theorem pay5_at (g : Vec Ideal S1x64x256 .f32) (hg : ∀ y, g y ≠ (⊤ : EReal)) (i : Fin 64) (x : Fin 256) :
    k0_pay5 (F := Ideal) g (ix2 i x) = runSum (fun j => g (ix3 0 j x)) i := by
  pointwise [k0_pay5]
  refine runSum_split (fun j => g (ix3 0 j x)) (fun j => hg _) i _ fun j => ?_
  show (((BitVec.setWidth 32 (IntOp.cmpi CmpIPredicate.sle (BitVec.ofNat 32 j.val) (BitVec.ofNat 32 i.val))).toInt : ℝ) : EReal) = _
  rw [mask_word]
  by_cases h : j.val ≤ i.val <;> simp [h]

/-- A lane's head number. -/
theorem pay15_at (i : Fin 64) (x : Fin 256) : k0_pay15 (ix2 i x) = BitVec.ofNat 32 (x.val / 64) := by
  pointwise [k0_pay15]
  revert x
  decide +kernel

/-- The row's head number in the state. -/
theorem pay25_at (x : Fin 256) (y : Fin 512) :
    k0_pay25 (iota .tc S256x512 32 [0] iota_S256x512_d0_w32) 64#32 k0_pay23 k0_pay24 (ix2 x y) = BitVec.ofNat 32 (x.val / 64) := by
  pointwise [k0_pay25, k0_pay23, k0_pay24]
  revert x
  decide +kernel

/-- The column's head number in the state. -/
theorem pay26_at (x : Fin 256) (y : Fin 512) : k0_pay26 (ix2 x y) = BitVec.ofNat 32 (y.val / 128) := by
  pointwise [k0_pay26]
  revert y
  decide +kernel

/-- Two head numbers are equal as words when they are equal. -/
theorem head_word {n h : ℕ} (hn : n < 4) (hh : h < 4) (a b : EReal) :
    Scalar.select (IntOp.cmpi CmpIPredicate.eq (BitVec.ofNat 32 n) (BitVec.ofNat 32 h)) a b = if n = h then a else b := by
  have e : IntOp.cmpi CmpIPredicate.eq (BitVec.ofNat 32 n) (BitVec.ofNat 32 h) = if n = h then 1#1 else 0#1 := by
    interval_cases n <;> interval_cases h <;> rfl
  rw [e]
  by_cases h : n = h <;> simp [h, Scalar.select]

/-- The queries with all lanes but the first head's set to zero. -/
theorem pay16_at (q : FVec Ideal S64x256 .f32) (i : Fin 64) (x : Fin 256) : k0_pay16 q (ix2 i x) = if x.val / 64 = 0 then q (ix2 i x) else 0 := by
  pointwise [k0_pay16]
  rw [pay15_at]
  exact head_word (by omega) (by omega) _ _

/-- Head 1's lanes of the queries, zeros elsewhere. -/
theorem pay17_at (q : FVec Ideal S64x256 .f32) (i : Fin 64) (x : Fin 256) : k0_pay17 q (ix2 i x) = if x.val / 64 = 1 then q (ix2 i x) else 0 := by
  pointwise [k0_pay17]
  rw [pay15_at]
  exact head_word (by omega) (by omega) _ _

/-- Head 2's lanes of the queries, zeros elsewhere. -/
theorem pay18_at (q : FVec Ideal S64x256 .f32) (i : Fin 64) (x : Fin 256) : k0_pay18 q (ix2 i x) = if x.val / 64 = 2 then q (ix2 i x) else 0 := by
  pointwise [k0_pay18]
  rw [pay15_at]
  exact head_word (by omega) (by omega) _ _

/-- The kernel's causal word: a stacked row's position in its head against a column. -/
theorem causal_word : ∀ (h : Fin 4) (i j : Fin 64), IntOp.cmpi CmpIPredicate.sle (BitVec.ofNat 32 j.val)
      (Scalar.select (IntOp.andi (IntOp.xori (IntOp.cmpi CmpIPredicate.slt (IntOp.remsi ArithUnit.vector (BitVec.ofNat 32 (h.val * 64 + i.val)) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne (IntOp.remsi ArithUnit.vector (BitVec.ofNat 32 (h.val * 64 + i.val)) (Scalar.select (Scalar.cmpi CmpIPredicate.eq 64#32 0#32) 1#32 64#32)) 0#32))
        (IntOp.addi (IntOp.remsi ArithUnit.vector (BitVec.ofNat 32 (h.val * 64 + i.val)) (Scalar.select (Scalar.cmpi CmpIPredicate.eq 64#32 0#32) 1#32 64#32)) (Scalar.select (Scalar.cmpi CmpIPredicate.eq 64#32 0#32) 1#32 64#32))
        (IntOp.remsi ArithUnit.vector (BitVec.ofNat 32 (h.val * 64 + i.val)) (Scalar.select (Scalar.cmpi CmpIPredicate.eq 64#32 0#32) 1#32 64#32))) = if j.val ≤ i.val then 1#1 else 0#1 := by
  decide +kernel

/-- The queries moved to the middle row's decay and scaled, at an index. -/
theorem pay8_at (q g : Vec Ideal S1x64x256 .f32) (i : Fin 64) (x : Fin 256) :
    k0_pay8 (F := Ideal) q g (ix2 i x) = q (ix3 0 i x) * Ideal.exp (k0_pay5 (F := Ideal) g (ix2 i x) - k0_pay5 (F := Ideal) g (ix2 32 x)) * Ideal.ofBits .f32 0x3E000000#32 := by
  pointwise [k0_pay8, k0_pay6, k0_pay3]

/-- The keys moved to the middle row's decay, at an index. -/
theorem pay9_at (q g : Vec Ideal S1x64x256 .f32) (i : Fin 64) (x : Fin 256) :
    k0_pay9 (F := Ideal) q g (ix2 i x) = q (ix3 0 i x) * Ideal.exp (k0_pay5 (F := Ideal) g (ix2 32 x) - k0_pay5 (F := Ideal) g (ix2 i x)) := by
  pointwise [k0_pay9, k0_pay6, k0_pay4]

/-- The keys decayed to the chunk's end, at an index. -/
theorem pay10_at (q g : Vec Ideal S1x64x256 .f32) (i : Fin 64) (x : Fin 256) :
    k0_pay10 (F := Ideal) q g (ix2 i x) = q (ix3 0 i x) * Ideal.exp (k0_pay5 (F := Ideal) g (ix2 63 x) - k0_pay5 (F := Ideal) g (ix2 i x)) := by
  pointwise [k0_pay10, k0_pay7, k0_pay4]

/-- The queries with their own decay, scaled, at an index. -/
theorem pay13_at (q g : Vec Ideal S1x64x256 .f32) (i : Fin 64) (x : Fin 256) :
    k0_pay13 (F := Ideal) (k0_pay11 q g) k0_pay12 (ix2 i x) = q (ix3 0 i x) * Ideal.exp (k0_pay5 (F := Ideal) g (ix2 i x)) * Ideal.ofBits .f32 0x3E000000#32 := by
  pointwise [k0_pay13, k0_pay11, k0_pay12, k0_pay3]

/-- The values, at an index. -/
theorem pay14_at (v : Vec Ideal S1x64x512 .f32) (i : Fin 64) (l : Fin 512) : k0_pay14 (F := Ideal) v (ix2 i l) = v (ix3 0 i l) := by
  pointwise [k0_pay14]

/-- The causal choice, from the kernel's words. -/
theorem causal_select (h : Fin 4) (i j : Fin 64) (n : ℕ) (hn : n = h.val * 64 + i.val) (a b : EReal) :
    Scalar.select (IntOp.cmpi CmpIPredicate.sle (BitVec.ofNat 32 j.val)
      (Scalar.select (IntOp.andi (IntOp.xori (IntOp.cmpi CmpIPredicate.slt (IntOp.remsi ArithUnit.vector (BitVec.ofNat 32 n) (Scalar.select (Scalar.cmpi CmpIPredicate.eq 64#32 0#32) 1#32 64#32)) 0#32) (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 n) (Scalar.select (Scalar.cmpi CmpIPredicate.eq 64#32 0#32) 1#32 64#32)) 0#32))
        (IntOp.addi (IntOp.remsi ArithUnit.vector (BitVec.ofNat 32 n) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 n) (Scalar.select (Scalar.cmpi CmpIPredicate.eq 64#32 0#32) 1#32 64#32)))) a b = if j.val ≤ i.val then a else b := by
  rw [hn, causal_word]
  by_cases h : j.val ≤ i.val <;> simp [h, Scalar.select]

/-- One head's attention within the chunk, before the head's lanes are singled out. -/
def intra (q : FVec Ideal S64x256 .f32) (k : FVec Ideal S64x256 .bf16) (v : FVec Ideal S64x512 .bf16) (i : Fin 64) (h : Fin 4) (l : Fin 512) : EReal :=
  ∑ j : Fin 64, (if j.val ≤ i.val then ∑ d : Fin 64, q (ix2 i ⟨h.val * 64 + d.val, by omega⟩) * k (ix2 j ⟨h.val * 64 + d.val, by omega⟩) else 0) * v (ix2 j l)

/-- A masked score times a value, read from the kernel's words. -/
theorem intra_of (q : FVec Ideal S64x256 .f32) (k : FVec Ideal S64x256 .bf16) (v : FVec Ideal S64x512 .bf16) (i : Fin 64) (h : Fin 4) (l : Fin 512)
    (f : Fin 64 → EReal) (g : Fin 256 → EReal) (w : Fin 64 → Fin 512) (hg : ∀ x : Fin 256, g x = if x.val / 64 = h.val then q (ix2 i x) else 0) (hw : ∀ j, w j = l)
    (hf : ∀ j : Fin 64, f j = if j.val ≤ i.val then (∑ x : Fin 256, g x * k (ix2 j x)) * v (ix2 j (w j)) else 0) :
    ∑ j, f j = intra q k v i h l := by
  unfold intra
  refine Finset.sum_congr rfl fun j _ => ?_
  rw [hf, hw, ← sum_head (fun x => q (ix2 i x) * k (ix2 j x)) h, ite_mul, zero_mul]
  simp only [hg, ite_mul, zero_mul]

/-- The attention within the chunk, in head 0's lanes. -/
theorem pay20_at0 (q : FVec Ideal S64x256 .f32) (k : FVec Ideal S64x256 .bf16) (v : FVec Ideal S64x512 .bf16) (i : Fin 64) (e : Fin 128) :
    k0_pay20 (F := Ideal) q k v k0_pay15 (k0_pay16 q) (k0_pay17 q) (k0_pay18 q) k0_pay19 (ix2 i ⟨0 + e.val, by omega⟩)
      = intra q k v i 0 ⟨0 + e.val, by omega⟩ := by
  pointwise [k0_pay20, k0_pay19]
  refine intra_of q k v i 0 _ _ _ _ (fun x => ?_) (fun j => ?_) fun j => causal_select 0 i j _ (by show _ = 0 * 64 + i.val; omega) _ _
  · exact pay16_at q i x
  · rfl

/-- The attention within the chunk, in head 1's lanes. -/
theorem pay20_at1 (q : FVec Ideal S64x256 .f32) (k : FVec Ideal S64x256 .bf16) (v : FVec Ideal S64x512 .bf16) (i : Fin 64) (e : Fin 128) :
    k0_pay20 (F := Ideal) q k v k0_pay15 (k0_pay16 q) (k0_pay17 q) (k0_pay18 q) k0_pay19 (ix2 i ⟨128 + e.val, by omega⟩)
      = intra q k v i 1 ⟨128 + e.val, by omega⟩ := by
  pointwise [k0_pay20, k0_pay19]
  refine intra_of q k v i 1 _ _ _ _ (fun x => ?_) (fun j => ?_) fun j => causal_select 1 i j _ (by show _ = 1 * 64 + i.val; omega) _ _
  · exact pay17_at q i x
  · rfl

/-- The attention within the chunk, in head 2's lanes. -/
theorem pay20_at2 (q : FVec Ideal S64x256 .f32) (k : FVec Ideal S64x256 .bf16) (v : FVec Ideal S64x512 .bf16) (i : Fin 64) (e : Fin 128) :
    k0_pay20 (F := Ideal) q k v k0_pay15 (k0_pay16 q) (k0_pay17 q) (k0_pay18 q) k0_pay19 (ix2 i ⟨256 + e.val, by omega⟩)
      = intra q k v i 2 ⟨256 + e.val, by omega⟩ := by
  pointwise [k0_pay20, k0_pay19]
  rw [dif_neg (by omega : ¬ (256 + e.val) < 128), dif_neg (by omega : ¬ (256 + e.val - 128) < 128), dif_pos (by omega : 256 + e.val - 128 - 128 < 128)]
  have hr : (⟨128 + i.val - 64 - 64, by omega⟩ : Fin 64) = i := Fin.ext (by show 128 + i.val - 64 - 64 = i.val; omega)
  refine intra_of q k v i 2 _ _ _ _ (fun x => ?_) (fun j => ?_) fun j => causal_select 2 i j _ (by show _ = 2 * 64 + i.val; omega) _ _
  · show (dite _ _ _ : EReal) = _
    rw [dif_neg (by omega : ¬ (128 + i.val) < 64), dif_neg (by omega : ¬ (128 + i.val - 64) < 64), dif_pos (by omega : 128 + i.val - 64 - 64 < 64), hr]
    exact pay18_at q i x
  · exact Fin.ext (by show 256 + (256 + e.val - 128 - 128) = 256 + e.val; omega)

/-- The attention within the chunk, in head 3's lanes. -/
theorem pay20_at3 (q : FVec Ideal S64x256 .f32) (k : FVec Ideal S64x256 .bf16) (v : FVec Ideal S64x512 .bf16) (i : Fin 64) (e : Fin 128) :
    k0_pay20 (F := Ideal) q k v k0_pay15 (k0_pay16 q) (k0_pay17 q) (k0_pay18 q) k0_pay19 (ix2 i ⟨384 + e.val, by omega⟩)
      = intra q k v i 3 ⟨384 + e.val, by omega⟩ := by
  pointwise [k0_pay20, k0_pay19]
  rw [dif_neg (by omega : ¬ (384 + e.val) < 128), dif_neg (by omega : ¬ (384 + e.val - 128) < 128), dif_neg (by omega : ¬ (384 + e.val - 128 - 128) < 128)]
  have hr : (⟨192 + i.val - 64 - 64 - 64, by omega⟩ : Fin 64) = i := Fin.ext (by show 192 + i.val - 64 - 64 - 64 = i.val; omega)
  refine intra_of q k v i 3 _ _ _ _ (fun x => ?_) (fun j => ?_) fun j => causal_select 3 i j _ (by show _ = 3 * 64 + i.val; omega) _ _
  · show (dite _ _ _ : EReal) = _
    rw [dif_neg (by omega : ¬ (192 + i.val) < 64), dif_neg (by omega : ¬ (192 + i.val - 64) < 64), dif_neg (by omega : ¬ (192 + i.val - 64 - 64) < 64), hr, pay15_at]
    exact head_word (by omega) (by omega) _ _
  · exact Fin.ext (by show 384 + (384 + e.val - 128 - 128 - 128) = 384 + e.val; omega)

/-- What a row reads from the state, over all 256 lanes. -/
theorem pay21_at (q : FVec Ideal S64x256 .bf16) (S : Vec Ideal S256x512 .f32) (i : Fin 64) (l : Fin 512) :
    k0_pay21 (F := Ideal) q S (ix2 i l) = ∑ x : Fin 256, q (ix2 i x) * S (ix2 x l) := by
  pointwise [k0_pay21]

/-- The chunk's keys times its values. -/
theorem pay22_at (k : FVec Ideal S64x256 .f32) (v : FVec Ideal S64x512 .bf16) (x : Fin 256) (l : Fin 512) :
    k0_pay22 (F := Ideal) k v (ix2 x l) = ∑ j : Fin 64, k (ix2 j x) * v (ix2 j l) := by
  pointwise [k0_pay22]

/-- The state after the chunk, with only each head's own block kept. -/
theorem pay28_at (S K : Vec Ideal S256x512 .f32) (a : FVec Ideal S1x256 .f32) (x : Fin 256) (l : Fin 512) :
    k0_pay28 (F := Ideal) S K (k0_pay25 (iota .tc S256x512 32 [0] iota_S256x512_d0_w32) 64#32 k0_pay23 k0_pay24) k0_pay26 (k0_pay27 a) (ix2 x l)
      = S (ix2 x l) * Ideal.exp (a (ix2 0 x)) + if x.val / 64 = l.val / 128 then K (ix2 x l) else 0 := by
  pointwise [k0_pay28, k0_pay27]
  rw [pay25_at, pay26_at, head_word (by omega) (by omega)]
  simp only [dite_eq_ite, ite_self]

/-- The state before the first chunk is zero. -/
theorem pay2_at (y : S256x512.Idx) : k0_pay2 (F := Ideal) y = (0 : EReal) := by
  pointwise [k0_pay2]

/-- The output gate. -/
theorem pay30_at (x : Vec Ideal S1x64x512 .f32) (i : Fin 64) (l : Fin 512) : k0_pay30 (F := Ideal) x (ix2 i l) = silu (x (ix3 0 i l)) := by
  pointwise [k0_pay30]
  unfold silu
  rw [sub_eq_add_neg, zero_add]

/-- The normalised and gated rows, in head 0's lanes. -/
theorem pay35_at0 (A B : FVec Ideal S64x512 .f32) (G : FVec Ideal S64x512 .f32) (w : Vec Ideal S1x128 .f32) (i : Fin 64) (e : Fin 128) :
    k0_pay1 (F := Ideal) (k0_pay35 (F := Ideal) (k0_pay29 A B) G (k0_pay31 A B w) (k0_pay32 A B) (k0_pay33 w) (k0_pay34 A B) w w) (ix3 0 i ⟨0 + e.val, by omega⟩)
      = headNorm (fun l => A (ix2 i ⟨0 + l.val, by omega⟩) + B (ix2 i ⟨0 + l.val, by omega⟩)) (fun l => w (ix2 0 l)) e * G (ix2 i ⟨0 + e.val, by omega⟩) := by
  unfold headNorm
  pointwise [k0_pay1, k0_pay35, k0_pay29, k0_pay31, k0_pay32, k0_pay33, k0_pay34]

/-- The normalised and gated rows, in head 1's lanes. -/
theorem pay35_at1 (A B : FVec Ideal S64x512 .f32) (G : FVec Ideal S64x512 .f32) (w : Vec Ideal S1x128 .f32) (i : Fin 64) (e : Fin 128) :
    k0_pay1 (F := Ideal) (k0_pay35 (F := Ideal) (k0_pay29 A B) G (k0_pay31 A B w) (k0_pay32 A B) (k0_pay33 w) (k0_pay34 A B) w w) (ix3 0 i ⟨128 + e.val, by omega⟩)
      = headNorm (fun l => A (ix2 i ⟨128 + l.val, by omega⟩) + B (ix2 i ⟨128 + l.val, by omega⟩)) (fun l => w (ix2 0 l)) e * G (ix2 i ⟨128 + e.val, by omega⟩) := by
  unfold headNorm
  pointwise [k0_pay1, k0_pay35, k0_pay29, k0_pay31, k0_pay32, k0_pay33, k0_pay34]

/-- The normalised and gated rows, in head 2's lanes. -/
theorem pay35_at2 (A B : FVec Ideal S64x512 .f32) (G : FVec Ideal S64x512 .f32) (w : Vec Ideal S1x128 .f32) (i : Fin 64) (e : Fin 128) :
    k0_pay1 (F := Ideal) (k0_pay35 (F := Ideal) (k0_pay29 A B) G (k0_pay31 A B w) (k0_pay32 A B) (k0_pay33 w) (k0_pay34 A B) w w) (ix3 0 i ⟨256 + e.val, by omega⟩)
      = headNorm (fun l => A (ix2 i ⟨256 + l.val, by omega⟩) + B (ix2 i ⟨256 + l.val, by omega⟩)) (fun l => w (ix2 0 l)) e * G (ix2 i ⟨256 + e.val, by omega⟩) := by
  unfold headNorm
  pointwise [k0_pay1, k0_pay35, k0_pay29, k0_pay31, k0_pay32, k0_pay33, k0_pay34]
  have hr : (⟨256 + e.val - 128 - 128, by omega⟩ : Fin 128) = e := Fin.ext (by show 256 + e.val - 128 - 128 = e.val; omega)
  have hc : (⟨256 + (256 + e.val - 128 - 128), by omega⟩ : Fin 512) = ⟨256 + e.val, by omega⟩ := Fin.ext (by show 256 + (256 + e.val - 128 - 128) = 256 + e.val; omega)
  rw [dif_neg (by omega : ¬ (256 + e.val) < 128), dif_neg (by omega : ¬ (256 + e.val - 128) < 128), dif_pos (by omega : 256 + e.val - 128 - 128 < 128), hc, hr]

/-- The normalised and gated rows, in head 3's lanes. -/
theorem pay35_at3 (A B : FVec Ideal S64x512 .f32) (G : FVec Ideal S64x512 .f32) (w : Vec Ideal S1x128 .f32) (i : Fin 64) (e : Fin 128) :
    k0_pay1 (F := Ideal) (k0_pay35 (F := Ideal) (k0_pay29 A B) G (k0_pay31 A B w) (k0_pay32 A B) (k0_pay33 w) (k0_pay34 A B) w w) (ix3 0 i ⟨384 + e.val, by omega⟩)
      = headNorm (fun l => A (ix2 i ⟨384 + l.val, by omega⟩) + B (ix2 i ⟨384 + l.val, by omega⟩)) (fun l => w (ix2 0 l)) e * G (ix2 i ⟨384 + e.val, by omega⟩) := by
  unfold headNorm
  pointwise [k0_pay1, k0_pay35, k0_pay29, k0_pay31, k0_pay32, k0_pay33, k0_pay34]
  have hr : (⟨384 + e.val - 128 - 128 - 128, by omega⟩ : Fin 128) = e := Fin.ext (by show 384 + e.val - 128 - 128 - 128 = e.val; omega)
  have hc : (⟨384 + (384 + e.val - 128 - 128 - 128), by omega⟩ : Fin 512) = ⟨384 + e.val, by omega⟩ := Fin.ext (by show 384 + (384 + e.val - 128 - 128 - 128) = 384 + e.val; omega)
  rw [dif_neg (by omega : ¬ (384 + e.val) < 128), dif_neg (by omega : ¬ (384 + e.val - 128) < 128), dif_neg (by omega : ¬ (384 + e.val - 128 - 128) < 128), hc, hr]

end Cert.Kernel5Ideal.Math
-- ==== Proof.GlaBlock.lean ====
/- What one grid point of the gated linear attention stores: the output block and the state, head by head. -/
module

public import Idealize.ShloMosaic.Lib.Pipeline.ReadBack
public import proofs.«01_k».proof.Proof.GlaMath

@[expose] public section

set_option maxRecDepth 16384

noncomputable section

open Idealize.ShloMosaic Idealize.ShloMosaic.TcCoe Idealize.SL.Sem
open Idealize.ShloMosaic.Pipeline (Dat)

namespace Cert.Kernel5Ideal.Math

open Cert.Kernel5Ideal Cert.Kernel5Ideal.Gen Cert.Layer

/-- A key lane: its head and its place in the head. -/
abbrev lane64 (h : Fin 4) (d : Fin 64) : Fin 256 := ⟨h.val * 64 + d.val, by omega⟩

/-- A value lane: its head and its place in the head. -/
abbrev lane128 (h : Fin 4) (e : Fin 128) : Fin 512 := ⟨h.val * 128 + e.val, by omega⟩

/-- The attention within the chunk plus what is read from the state, as one block. -/
def mixA (q k g : Vec Ideal S1x64x256 .f32) (v : Vec Ideal S1x64x512 .f32) : FVec Ideal S64x512 .f32 :=
  k0_pay20 (F := Ideal) (k0_pay8 q g) (k0_pay9 k g) (k0_pay14 v) k0_pay15 (k0_pay16 (k0_pay8 q g)) (k0_pay17 (k0_pay8 q g)) (k0_pay18 (k0_pay8 q g)) k0_pay19

/-- What the rows read from the state, as one block. -/
def mixB (q g : Vec Ideal S1x64x256 .f32) (S : Vec Ideal S256x512 .f32) : FVec Ideal S64x512 .f32 :=
  k0_pay21 (F := Ideal) (k0_pay13 (k0_pay11 q g) k0_pay12) S

/-- The output block a point stores. -/
def outBlock (q k g : Vec Ideal S1x64x256 .f32) (v og : Vec Ideal S1x64x512 .f32) (w : Vec Ideal S1x128 .f32) (S : Vec Ideal S256x512 .f32) : Vec Ideal S1x64x512 .bf16 :=
  k0_pay1 (F := Ideal) (k0_pay35 (F := Ideal) (k0_pay29 (mixA q k g v) (mixB q g S)) (k0_pay30 og) (k0_pay31 (mixA q k g v) (mixB q g S) w) (k0_pay32 (mixA q k g v) (mixB q g S)) (k0_pay33 w) (k0_pay34 (mixA q k g v) (mixB q g S)) w w)

/-- The state a point leaves. -/
def stepBlock (k g : Vec Ideal S1x64x256 .f32) (v : Vec Ideal S1x64x512 .f32) (S : Vec Ideal S256x512 .f32) : Vec Ideal S256x512 .f32 :=
  k0_pay28 (F := Ideal) S (k0_pay22 (k0_pay10 k g) (k0_pay14 v)) (k0_pay25 (iota .tc S256x512 32 [0] iota_S256x512_d0_w32) 64#32 k0_pay23 k0_pay24) k0_pay26 (k0_pay27 (k0_pay7 g))

/-- One head's rows of a block of queries, keys or decays. -/
def rows64 (x : Vec Ideal S1x64x256 .f32) (h : Fin 4) : Fin 64 → Fin 64 → EReal := fun j d => x (ix3 0 j (lane64 h d))

/-- One head's rows of a block of values. -/
def rows128 (x : Vec Ideal S1x64x512 .f32) (h : Fin 4) : Fin 64 → Fin 128 → EReal := fun j e => x (ix3 0 j (lane128 h e))

/-- One head's running sums of a block of decays. -/
def sums (g : Vec Ideal S1x64x256 .f32) (h : Fin 4) : Fin 64 → Fin 64 → EReal := fun i d => runSum (fun j => g (ix3 0 j (lane64 h d))) i

/-- A state kept in the kernel's layout: each head's block on the diagonal, zeros elsewhere. -/
def Holds (S : Vec Ideal S256x512 .f32) (st : Fin 4 → Fin 64 → Fin 128 → EReal) : Prop :=
  ∀ (h : Fin 4) (d : Fin 64) (h' : Fin 4) (e : Fin 128), S (ix2 (lane64 h d) (lane128 h' e)) = if h = h' then st h d e else 0

/-- The attention within the chunk, in any head's lanes. -/
theorem pay20_at (q : FVec Ideal S64x256 .f32) (k : FVec Ideal S64x256 .bf16) (v : FVec Ideal S64x512 .bf16) (i : Fin 64) (h : Fin 4) (e : Fin 128) :
    k0_pay20 (F := Ideal) q k v k0_pay15 (k0_pay16 q) (k0_pay17 q) (k0_pay18 q) k0_pay19 (ix2 i (lane128 h e)) = intra q k v i h (lane128 h e) :=
  match h with
  | 0 => pay20_at0 q k v i e
  | 1 => pay20_at1 q k v i e
  | 2 => pay20_at2 q k v i e
  | 3 => pay20_at3 q k v i e

/-- The normalised and gated rows, in any head's lanes. -/
theorem pay35_at (A B : FVec Ideal S64x512 .f32) (G : FVec Ideal S64x512 .f32) (w : Vec Ideal S1x128 .f32) (i : Fin 64) (h : Fin 4) (e : Fin 128) :
    k0_pay1 (F := Ideal) (k0_pay35 (F := Ideal) (k0_pay29 A B) G (k0_pay31 A B w) (k0_pay32 A B) (k0_pay33 w) (k0_pay34 A B) w w) (ix3 0 i (lane128 h e))
      = headNorm (fun l => A (ix2 i (lane128 h l)) + B (ix2 i (lane128 h l))) (fun l => w (ix2 0 l)) e * G (ix2 i (lane128 h e)) :=
  match h with
  | 0 => pay35_at0 A B G w i e
  | 1 => pay35_at1 A B G w i e
  | 2 => pay35_at2 A B G w i e
  | 3 => pay35_at3 A B G w i e

/-- The attention within the chunk, from the argument blocks. -/
theorem mixA_at (q k g : Vec Ideal S1x64x256 .f32) (v : Vec Ideal S1x64x512 .f32) (hg : ∀ y, g y ≠ (⊤ : EReal)) (i : Fin 64) (h : Fin 4) (e : Fin 128) :
    mixA q k g v (ix2 i (lane128 h e)) = ∑ j, (if j.val ≤ i.val then glaScore (rows64 q h) (rows64 k h) (sums g h) i j else 0) * rows128 v h j e := by
  unfold mixA
  rw [pay20_at]
  unfold intra glaScore
  refine Finset.sum_congr rfl fun j _ => ?_
  rw [pay14_at]
  refine congrArg (fun z : EReal => (if j.val ≤ i.val then z else 0) * rows128 v h j e) (Finset.sum_congr rfl fun d _ => ?_)
  rw [pay8_at, pay9_at, pay5_at g hg, pay5_at g hg, pay5_at g hg, mul_right_comm (q _)]
  rfl

/-- What a row reads from the state, from the argument blocks. -/
theorem mixB_at (q g : Vec Ideal S1x64x256 .f32) (S : Vec Ideal S256x512 .f32) (st : Fin 4 → Fin 64 → Fin 128 → EReal) (hS : Holds S st) (hg : ∀ y, g y ≠ (⊤ : EReal)) (i : Fin 64) (h : Fin 4) (e : Fin 128) :
    mixB q g S (ix2 i (lane128 h e)) = ∑ d, (rows64 q h i d * Ideal.ofBits .f32 0x3E000000#32 * Ideal.exp (sums g h i d)) * st h d e := by
  unfold mixB
  rw [pay21_at]
  refine Eq.trans (Finset.sum_congr rfl fun x _ => ?_) ((sum_head (fun x => k0_pay13 (F := Ideal) (k0_pay11 q g) k0_pay12 (ix2 i x) * S (ix2 x (lane128 h e))) h).trans (Finset.sum_congr rfl fun d _ => ?_))
  · by_cases hx : x.val / 64 = h.val
    · rw [if_pos hx]
    · rw [if_neg hx]
      have e1 : x = lane64 ⟨x.val / 64, by omega⟩ ⟨x.val % 64, by omega⟩ := Fin.ext (by show x.val = x.val / 64 * 64 + x.val % 64; omega)
      rw [e1, hS, if_neg (fun hh => hx (congrArg Fin.val hh)), mul_zero]
  · show k0_pay13 (F := Ideal) (k0_pay11 q g) k0_pay12 (ix2 i (lane64 h d)) * S (ix2 (lane64 h d) (lane128 h e)) = _
    rw [hS, if_pos rfl, pay13_at, pay5_at g hg, mul_right_comm (q _)]
    rfl

/-- The output block at an index. -/
theorem outBlock_at (q k g : Vec Ideal S1x64x256 .f32) (v og : Vec Ideal S1x64x512 .f32) (w : Vec Ideal S1x128 .f32) (S : Vec Ideal S256x512 .f32)
    (st : Fin 4 → Fin 64 → Fin 128 → EReal) (hS : Holds S st) (hg : ∀ y, g y ≠ (⊤ : EReal)) (i : Fin 64) (h : Fin 4) (e : Fin 128) :
    outBlock q k g v og w S (ix3 0 i (lane128 h e))
      = headNorm (glaMix (rows64 q h) (rows64 k h) (sums g h) (rows128 v h) (st h) i) (fun l => w (ix2 0 l)) e * silu (rows128 og h i e) := by
  unfold outBlock
  rw [pay35_at, pay30_at]
  refine congrArg (fun o : Fin 128 → EReal => headNorm o (fun l => w (ix2 0 l)) e * silu (rows128 og h i e)) (funext fun l => ?_)
  rw [mixA_at q k g v hg, mixB_at q g S st hS hg]
  rfl

/-- The state a point leaves is the decayed state plus the chunk's keys times its values. -/
theorem stepBlock_holds (k g : Vec Ideal S1x64x256 .f32) (v : Vec Ideal S1x64x512 .f32) (S : Vec Ideal S256x512 .f32)
    (st : Fin 4 → Fin 64 → Fin 128 → EReal) (hS : Holds S st) (hg : ∀ y, g y ≠ (⊤ : EReal)) :
    Holds (stepBlock k g v S) fun h => glaStep (rows64 k h) (sums g h) (rows128 v h) (st h) := by
  intro h d h' e
  unfold stepBlock
  rw [pay28_at, hS]
  have e1 : (lane64 h d).val / 64 = h.val := by show (h.val * 64 + d.val) / 64 = h.val; omega
  have e2 : (lane128 h' e).val / 128 = h'.val := by show (h'.val * 128 + e.val) / 128 = h'.val; omega
  rw [e1, e2]
  by_cases hh : h = h'
  · subst hh
    rw [if_pos rfl, if_pos rfl, if_pos rfl, pay22_at]
    unfold glaStep
    rw [mul_comm]
    refine congr (congrArg HAdd.hAdd (congrArg (fun z => Ideal.exp z * st h d e) ?_)) (Finset.sum_congr rfl fun j _ => ?_)
    · pointwise [k0_pay7]
      rw [pay5_at g hg]
      rfl
    · rw [pay10_at, pay14_at, pay5_at g hg, pay5_at g hg]
      rfl
  · rw [if_neg hh, if_neg (fun z => hh (Fin.ext z)), if_neg hh, zero_mul, zero_add]

/-- The state before a batch's first chunk. -/
theorem zero_holds : Holds (k0_pay2 (F := Ideal)) fun _ _ _ => 0 := by
  intro h d h' e
  rw [pay2_at]
  split_ifs <;> rfl

variable (m : (ℓ : Loc nD τ sig) → Buf (Elt Ideal) ℓ)

/-- What a batch's first point leaves. -/
theorem outs_first (c : Dev nD) (t : Fin cfg0.N) (h0 : t.val % 64 = 0) :
    outsAt0 m c t.val t.isLt = (outBlock (iblk m c 0 t) (iblk m c 1 t) (iblk m c 2 t) (iblk m c 3 t) (iblk m c 4 t) (iblk m c 5 t) (k0_pay2 (F := Ideal)),
      stepBlock (iblk m c 1 t) (iblk m c 2 t) (iblk m c 3 t) (k0_pay2 (F := Ideal))) := by
  rw [outsAt0_A m c t h0]
  refine Prod.ext ?_ ?_
  · frame_out
    rfl
  · frame_out
    rfl

/-- What a batch's later point leaves. -/
theorem outs_later (c : Dev nD) (t : Fin cfg0.N) (h0 : ¬ t.val % 64 = 0) :
    outsAt0 m c t.val t.isLt = (outBlock (iblk m c 0 t) (iblk m c 1 t) (iblk m c 2 t) (iblk m c 3 t) (iblk m c 4 t) (iblk m c 5 t) (outsAt0 m c (t.val - 1) (Nat.lt_of_le_of_lt (Nat.sub_le _ _) t.isLt)).2,
      stepBlock (iblk m c 1 t) (iblk m c 2 t) (iblk m c 3 t) (outsAt0 m c (t.val - 1) (Nat.lt_of_le_of_lt (Nat.sub_le _ _) t.isLt)).2) := by
  rw [outsAt0_B m c t h0]
  generalize (outsAt0 m c (t.val - 1) (Nat.lt_of_le_of_lt (Nat.sub_le _ _) t.isLt)).2 = S
  refine Prod.ext ?_ ?_
  · frame_out
    rw [Idealize.ShloMosaic.read_unread_whole]
    rfl
  · frame_out
    rw [Idealize.ShloMosaic.read_unread_whole]
    rfl

end Cert.Kernel5Ideal.Math
-- ==== Proof.GlaRef.lean ====
/- The reference's gated linear attention, read at an index. -/
module

public import proofs.«01_k».proof.Proof.GlaBlock
public import proofs.«01_k».proof.Proof.Gen.Reference5Ideal.Run

@[expose] public section

set_option maxRecDepth 16384

noncomputable section

open Idealize.ShloMosaic Idealize.ShloMosaic.TcCoe Idealize.SL.Sem
open Idealize.ShloMosaic.Pipeline (Dat)

namespace Cert.Layer

/-- Adding a list's terms one after another to a number gives the number plus their sum. -/
theorem foldl_add_map {α : Type} (f : α → EReal) (l : List α) (a : EReal) : l.foldl (fun r k => r + f k) a = a + (l.map f).sum := by
  induction l generalizing a with
  | nil => simp
  | cons x l ih => rw [List.foldl_cons, ih, List.map_cons, List.sum_cons, add_assoc]

/-- The same over the numbers below `n`. -/
theorem foldl_add_fin (n : ℕ) (f : Fin n → EReal) (a : EReal) : (List.finRange n).foldl (fun r k => r + f k) a = a + ∑ k, f k := by
  rw [foldl_add_map, Fin.sum_univ_def]

/-- The sum of the entries that a window of 64 places, ending at place `i`, meets. -/
theorem sum_window (x : Fin 64 → EReal) (i : Fin 64) :
    (∑ w : Fin 64, if h : 63 ≤ i.val + w.val then x ⟨i.val + w.val - 63, by omega⟩ else 0) = runSum x i := by
  unfold runSum
  have e : ∀ w : Fin 64, (if h : 63 ≤ i.val + w.val then x ⟨i.val + w.val - 63, by omega⟩ else 0) = if 63 ≤ i.val + w.val then x ⟨(i.val + w.val - 63) % 64, Nat.mod_lt _ (by decide)⟩ else 0 := by
    intro w
    by_cases h : 63 ≤ i.val + w.val
    · rw [dif_pos h, if_pos h]
      exact congrArg x (Fin.ext (by show i.val + w.val - 63 = (i.val + w.val - 63) % 64; omega))
    · rw [dif_neg h, if_neg h]
  rw [Finset.sum_congr rfl fun w _ => e w, ← Finset.sum_filter, ← Finset.sum_filter]
  refine Finset.sum_nbij' (fun w => ⟨(i.val + w.val - 63) % 64, Nat.mod_lt _ (by decide)⟩) (fun j => ⟨(j.val + 63 - i.val) % 64, Nat.mod_lt _ (by decide)⟩) ?_ ?_ ?_ ?_ ?_
  · intro w hw
    rw [Finset.mem_filter] at hw ⊢
    have := hw.2
    exact ⟨Finset.mem_univ _, by show (i.val + w.val - 63) % 64 ≤ i.val; omega⟩
  · intro j hj
    rw [Finset.mem_filter] at hj ⊢
    have := hj.2
    exact ⟨Finset.mem_univ _, by show 63 ≤ i.val + (j.val + 63 - i.val) % 64; omega⟩
  · intro w hw
    rw [Finset.mem_filter] at hw
    have := hw.2
    exact Fin.ext (by show ((i.val + w.val - 63) % 64 + 63 - i.val) % 64 = w.val; omega)
  · intro j hj
    rw [Finset.mem_filter] at hj
    have := hj.2
    exact Fin.ext (by show (i.val + (j.val + 63 - i.val) % 64 - 63) % 64 = j.val; omega)
  · intro w _; rfl

end Cert.Layer

namespace Cert.Reference5Ideal.Math

open Cert.Reference5Ideal Cert.Reference5Ideal.Gen Cert.Layer

/-- A sequence split into chunks and heads of 64 lanes. -/
def heads64 (x : FVec Ideal S8x4096x256 .f32) : FVec Ideal S8x4x64x64x64 .f32 :=
  transpose S8x4x64x64x64 [0, 3, 1, 2, 4] (shapeCast _ x shapeCasts_S8x4096x256_S8x64x64x4x64) transposes_S8x64x64x4x64_S8x4x64x64x64_0_3_1_2_4

/-- A sequence split into chunks and heads of 128 lanes. -/
def heads128 (v : FVec Ideal S8x4096x512 .f32) : FVec Ideal S8x4x64x64x128 .f32 :=
  transpose S8x4x64x64x128 [0, 3, 1, 2, 4] (shapeCast _ v shapeCasts_S8x4096x512_S8x64x64x4x128) transposes_S8x64x64x4x128_S8x4x64x64x128_0_3_1_2_4

/-- The running sums of the decays within each chunk. -/
def cumOf (g : FVec Ideal S8x4096x256 .f32) : FVec Ideal S8x4x64x64x64 .f32 :=
  (Host.reduceWindowAdd ![1, 1, 1, 64, 1] ![1, 1, 1, 1, 1] ![0, 0, 0, 63, 0] ![0, 0, 0, 0, 0] (heads64 g) (broadcastInDim S_ ![] bcast_S_S_ (constant S_ .f32 0x00000000#32)) reduceWindows_S8x4x64x64x64_S8x4x64x64x64_w1s1p0_0_w1s1p0_0_w1s1p0_0_w64s1p63_0_w1s1p0_0 h_S_)

/-- The scores of each chunk. -/
def scoreOf (q k g : FVec Ideal S8x4096x256 .f32) : FVec Ideal S8x4x64x64x64 .f32 :=
  (Host.dotGeneral dot_S8x4x64x64x64_S8x4x64x64x64_S8x4x64x64x64_4_4_3_3_012_012 none (mulf (mulf (heads64 q) (broadcastInDim S8x4x64x64x64 ![] bcast_S_S8x4x64x64x64 (constant S_ .f32 0x3E000000#32))) (Host.exp (subf (cumOf g) (broadcastInDim S8x4x64x64x64 ![0, 1, 2, 3, 4] bcast_S8x4x64x1x64_S8x4x64x64x64_0_1_2_3_4 (extractStridedSlice S8x4x64x1x64 ![0, 0, 0, 32, 0] (cumOf g) slices_S8x4x64x64x64_S8x4x64x1x64_0_0_0_32_0))))) (mulf (heads64 k) (Host.exp (subf (broadcastInDim S8x4x64x64x64 ![0, 1, 2, 3, 4] bcast_S8x4x64x1x64_S8x4x64x64x64_0_1_2_3_4 (extractStridedSlice S8x4x64x1x64 ![0, 0, 0, 32, 0] (cumOf g) slices_S8x4x64x64x64_S8x4x64x1x64_0_0_0_32_0)) (cumOf g)))))

/-- The attention within each chunk plus what is read from the state before it. -/
def mixOf (q k g : FVec Ideal S8x4096x256 .f32) (v : FVec Ideal S8x4096x512 .f32) (prev : FVec Ideal S64x8x4x64x128 .f32) : FVec Ideal S8x4x64x64x128 .f32 :=
  (addf (Host.dotGeneral dot_S8x4x64x64x64_S8x4x64x64x128_S8x4x64x64x128_4_3_3_4_012_012 none (select (broadcastInDim S8x4x64x64x64 ![3, 4] bcast_S64x64_S8x4x64x64x64_3_4 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (scoreOf q k g) (broadcastInDim S8x4x64x64x64 ![] bcast_S_S8x4x64x64x64 (id (constant S_ .f32 0x00000000#32)))) (heads128 v)) (Host.dotGeneral dot_S8x4x64x64x64_S64x8x4x64x128_S8x4x64x64x128_4_3_3_4_012_120 none (mulf (mulf (heads64 q) (broadcastInDim S8x4x64x64x64 ![] bcast_S_S8x4x64x64x64 (constant S_ .f32 0x3E000000#32))) (Host.exp (cumOf g))) prev))

/-- Each head's row divided by its root mean square, times the head weights. -/
def normOf (o : FVec Ideal S8x4x64x64x128 .f32) (w : FVec Ideal S128 .f32) : FVec Ideal S8x4x64x64x128 .f32 :=
  (mulf (mulf o (broadcastInDim S8x4x64x64x128 ![0, 1, 2, 3, 4] bcast_S8x4x64x64x1_S8x4x64x64x128_0_1_2_3_4 (Host.rsqrt (addf (Host.divf (broadcastInDim S8x4x64x64x1 ![0, 1, 2, 3] bcast_S8x4x64x64_S8x4x64x64x1_0_1_2_3 (Host.reduceAdd (mulf o o) (constant S_ .f32 0x00000000#32) reducesTo_S8x4x64x64x128_S8x4x64x64_d4 h_S_)) (broadcastInDim S8x4x64x64x1 ![] bcast_S_S8x4x64x64x1 (constant S_ .f32 0x43000000#32))) (broadcastInDim S8x4x64x64x1 ![] bcast_S_S8x4x64x64x1 (constant S_ .f32 0x358637BD#32)))))) (broadcastInDim S8x4x64x64x128 ![0, 1, 2, 3, 4] bcast_S1x1x1x1x128_S8x4x64x64x128_0_1_2_3_4 (broadcastInDim S1x1x1x1x128 ![4] bcast_S128_S1x1x1x1x128_4 w)))

/-- The gated linear attention, from the states before each chunk. -/
def bodyOf (q k g : FVec Ideal S8x4096x256 .f32) (v og : FVec Ideal S8x4096x512 .f32) (w : FVec Ideal S128 .f32) (prev : FVec Ideal S64x8x4x64x128 .f32) : FVec Ideal S8x4096x512 .bf16 :=
  truncf .bf16 (mulf (shapeCast _ (transpose S8x64x64x4x128 [0, 2, 3, 1, 4] (normOf (mixOf q k g v prev) w) transposes_S8x4x64x64x128_S8x64x64x4x128_0_2_3_1_4) shapeCasts_S8x64x64x4x128_S8x4096x512) (mulf og (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf og)))))) bitsLt_bf16_f32

/-- A lane of the 256 in a row of a chunk. -/
abbrev at64 (x : FVec Ideal S8x4096x256 .f32) (b : Fin 8) (n : Fin 64) (h : Fin 4) (i d : Fin 64) : EReal :=
  x (ix3 b ⟨n.val * 64 + i.val, by omega⟩ ⟨h.val * 64 + d.val, by omega⟩)

/-- A lane of the 512 in a row of a chunk. -/
abbrev at128 (x : FVec Ideal S8x4096x512 .f32) (b : Fin 8) (n : Fin 64) (h : Fin 4) (i : Fin 64) (e : Fin 128) : EReal :=
  x (ix3 b ⟨n.val * 64 + i.val, by omega⟩ ⟨h.val * 128 + e.val, by omega⟩)

/-- The split into heads of 64 lanes, at an index. -/
theorem heads64_at (x : FVec Ideal S8x4096x256 .f32) (b : Fin 8) (h : Fin 4) (n i d : Fin 64) : heads64 x (ix5 b h n i d) = at64 x b n h i d := by
  pointwise [heads64]

/-- The split into heads of 128 lanes, at an index. -/
theorem heads128_at (x : FVec Ideal S8x4096x512 .f32) (b : Fin 8) (h : Fin 4) (n i : Fin 64) (e : Fin 128) : heads128 x (ix5 b h n i e) = at128 x b n h i e := by
  pointwise [heads128]

/-- The offsets of a window of 64 places along one axis are the numbers below 64. -/
def window : (⟨5, ![1, 1, 1, 64, 1]⟩ : Shape).Idx ≃ Fin 64 where
  toFun y := y 3
  invFun w := ix5 0 0 0 w 0
  left_inv y := by
    have e0 : y 0 = (0 : Fin 1) := Subsingleton.elim (α := Fin 1) _ _
    have e1 : y 1 = (0 : Fin 1) := Subsingleton.elim (α := Fin 1) _ _
    have e2 : y 2 = (0 : Fin 1) := Subsingleton.elim (α := Fin 1) _ _
    have e4 : y 4 = (0 : Fin 1) := Subsingleton.elim (α := Fin 1) _ _
    refine Eq.trans ?_ (eq_ix5 y).symm
    rw [e0, e1, e2, e4]
  right_inv w := rfl

/-- The running sum along the rows of a chunk, at an index. -/
theorem sum_at (x : FVec Ideal S8x4x64x64x64 .f32) (z : FVec Ideal S_ .f32) (hz : z (Shape.Idx.first h_S_) = 0) (b : Fin 8) (h : Fin 4) (n i d : Fin 64) :
    Host.reduceWindowAdd ![1, 1, 1, 64, 1] ![1, 1, 1, 1, 1] ![0, 0, 0, 63, 0] ![0, 0, 0, 0, 0] x z reduceWindows_S8x4x64x64x64_S8x4x64x64x64_w1s1p0_0_w1s1p0_0_w1s1p0_0_w64s1p63_0_w1s1p0_0 h_S_ (ix5 b h n i d)
      = runSum (fun j => x (ix5 b h n j d)) i := by
  unfold Host.reduceWindowAdd
  rw [Ideal.hostReduceWindowAdd_def]
  unfold Ideal.hostReduceWindowAdd
  generalize z (Shape.Idx.first h_S_) = z0 at hz ⊢
  subst hz
  refine (foldl_add_fin _ _ _).trans ?_
  rw [zero_add]
  refine Eq.trans ?_ (sum_window (fun j => x (ix5 b h n j d)) i)
  refine Fintype.sum_equiv ((⟨5, ![1, 1, 1, 64, 1]⟩ : Shape).rowMajor.symm.trans window) _ _ fun m => ?_
  have y0 : ((⟨5, ![1, 1, 1, 64, 1]⟩ : Shape).rowMajor.symm m (0 : Fin 5)).val < 1 := Fin.isLt _
  have y1 : ((⟨5, ![1, 1, 1, 64, 1]⟩ : Shape).rowMajor.symm m (1 : Fin 5)).val < 1 := Fin.isLt _
  have y2 : ((⟨5, ![1, 1, 1, 64, 1]⟩ : Shape).rowMajor.symm m (2 : Fin 5)).val < 1 := Fin.isLt _
  have y3 : ((⟨5, ![1, 1, 1, 64, 1]⟩ : Shape).rowMajor.symm m (3 : Fin 5)).val < 64 := Fin.isLt _
  have y4 : ((⟨5, ![1, 1, 1, 64, 1]⟩ : Shape).rowMajor.symm m (4 : Fin 5)).val < 1 := Fin.isLt _
  by_cases hw : 63 ≤ i.val + ((⟨5, ![1, 1, 1, 64, 1]⟩ : Shape).rowMajor.symm m (3 : Fin 5)).val
  · refine Eq.trans (dif_pos ?_) (Eq.trans ?_ (dif_pos hw).symm)
    · intro a
      match a with
      | ⟨0, _⟩ => show 0 ≤ b.val * 1 + ((⟨5, ![1, 1, 1, 64, 1]⟩ : Shape).rowMajor.symm m (0 : Fin 5)).val ∧ b.val * 1 + ((⟨5, ![1, 1, 1, 64, 1]⟩ : Shape).rowMajor.symm m (0 : Fin 5)).val - 0 < 8; omega
      | ⟨1, _⟩ => show 0 ≤ h.val * 1 + ((⟨5, ![1, 1, 1, 64, 1]⟩ : Shape).rowMajor.symm m (1 : Fin 5)).val ∧ h.val * 1 + ((⟨5, ![1, 1, 1, 64, 1]⟩ : Shape).rowMajor.symm m (1 : Fin 5)).val - 0 < 4; omega
      | ⟨2, _⟩ => show 0 ≤ n.val * 1 + ((⟨5, ![1, 1, 1, 64, 1]⟩ : Shape).rowMajor.symm m (2 : Fin 5)).val ∧ n.val * 1 + ((⟨5, ![1, 1, 1, 64, 1]⟩ : Shape).rowMajor.symm m (2 : Fin 5)).val - 0 < 64; omega
      | ⟨3, _⟩ => show 63 ≤ i.val * 1 + ((⟨5, ![1, 1, 1, 64, 1]⟩ : Shape).rowMajor.symm m (3 : Fin 5)).val ∧ i.val * 1 + ((⟨5, ![1, 1, 1, 64, 1]⟩ : Shape).rowMajor.symm m (3 : Fin 5)).val - 63 < 64; omega
      | ⟨4, _⟩ => show 0 ≤ d.val * 1 + ((⟨5, ![1, 1, 1, 64, 1]⟩ : Shape).rowMajor.symm m (4 : Fin 5)).val ∧ d.val * 1 + ((⟨5, ![1, 1, 1, 64, 1]⟩ : Shape).rowMajor.symm m (4 : Fin 5)).val - 0 < 64; omega
    · refine congrArg x (funext fun a => Fin.ext ?_)
      match a with
      | ⟨0, _⟩ => show b.val * 1 + ((⟨5, ![1, 1, 1, 64, 1]⟩ : Shape).rowMajor.symm m (0 : Fin 5)).val - 0 = b.val; omega
      | ⟨1, _⟩ => show h.val * 1 + ((⟨5, ![1, 1, 1, 64, 1]⟩ : Shape).rowMajor.symm m (1 : Fin 5)).val - 0 = h.val; omega
      | ⟨2, _⟩ => show n.val * 1 + ((⟨5, ![1, 1, 1, 64, 1]⟩ : Shape).rowMajor.symm m (2 : Fin 5)).val - 0 = n.val; omega
      | ⟨3, _⟩ => show i.val * 1 + ((⟨5, ![1, 1, 1, 64, 1]⟩ : Shape).rowMajor.symm m (3 : Fin 5)).val - 63 = i.val + ((⟨5, ![1, 1, 1, 64, 1]⟩ : Shape).rowMajor.symm m (3 : Fin 5)).val - 63; omega
      | ⟨4, _⟩ => show d.val * 1 + ((⟨5, ![1, 1, 1, 64, 1]⟩ : Shape).rowMajor.symm m (4 : Fin 5)).val - 0 = d.val; omega
  · refine Eq.trans (b := (0 : EReal)) (dif_neg ?_) (Eq.symm ?_)
    swap
    · exact dif_neg hw
    intro hin
    have h3 : 63 ≤ i.val * 1 + ((⟨5, ![1, 1, 1, 64, 1]⟩ : Shape).rowMajor.symm m (3 : Fin 5)).val := (hin 3).1
    omega

/-- The running sums of the decays, at an index. -/
theorem cum_at (g : FVec Ideal S8x4096x256 .f32) (b : Fin 8) (h : Fin 4) (n i d : Fin 64) : cumOf g (ix5 b h n i d) = runSum (fun j => at64 g b n h j d) i := by
  unfold cumOf
  rw [sum_at _ _ (by pointwise)]
  simp only [heads64_at]

end Cert.Reference5Ideal.Math
-- ==== Proof.GlaRows.lean ====
/- The reference's gated linear attention after its loop, read at an index. -/
module

public import proofs.«01_k».proof.Proof.GlaRef

@[expose] public section

set_option maxRecDepth 16384

noncomputable section

open Idealize.ShloMosaic Idealize.ShloMosaic.TcCoe Idealize.SL.Sem
open Idealize.ShloMosaic.Pipeline (Dat)

namespace Cert.Reference5Ideal.Math

open Cert.Reference5Ideal Cert.Reference5Ideal.Gen Cert.Layer

/-- The scores of a chunk, at an index. -/
theorem score_at (q k g : FVec Ideal S8x4096x256 .f32) (b : Fin 8) (h : Fin 4) (n i j : Fin 64) :
    scoreOf q k g (ix5 b h n i j) = glaScore (at64 q b n h) (at64 k b n h) (fun i d => runSum (fun j => at64 g b n h j d) i) i j := by
  pointwise [scoreOf, heads64_at, cum_at]
  rfl

/-- The word of the causal mask. -/
theorem tril_word : ∀ i j : Fin 64, Scalar.select (IntOp.cmpi CmpIPredicate.sge (IntOp.addi (BitVec.ofNat 32 i.val) 0#32) (BitVec.ofNat 32 j.val)) 1#1 0#1 = if j.val ≤ i.val then 1#1 else 0#1 := by
  decide +kernel

/-- The attention within a chunk plus what is read from the state before it, at an index. -/
theorem mix_at (q k g : FVec Ideal S8x4096x256 .f32) (v : FVec Ideal S8x4096x512 .f32) (prev : FVec Ideal S64x8x4x64x128 .f32) (b : Fin 8) (h : Fin 4) (n i : Fin 64) (e : Fin 128) :
    mixOf q k g v prev (ix5 b h n i e) = glaMix (at64 q b n h) (at64 k b n h) (fun i d => runSum (fun j => at64 g b n h j d) i) (at128 v b n h) (fun d e => prev (ix5 n b h d e)) i e := by
  pointwise [mixOf, heads64_at, heads128_at, cum_at, score_at]
  refine congrArg (· + _) (Finset.sum_congr rfl fun j _ => congrArg (· * _) ?_)
  rw [tril_word]
  show Scalar.select _ _ (Ideal.ofBits .f32 0x00000000#32) = _
  rw [show Ideal.ofBits .f32 0x00000000#32 = 0 from by simp [Ideal.ofBits, Ideal.ieee]]
  by_cases hj : j.val ≤ i.val <;> simp [hj, Scalar.select]

/-- The norm of a head's row, at an index. -/
theorem norm_at (o : FVec Ideal S8x4x64x64x128 .f32) (w : FVec Ideal S128 .f32) (b : Fin 8) (h : Fin 4) (n i : Fin 64) (e : Fin 128) :
    normOf o w (ix5 b h n i e) = headNorm (fun l => o (ix5 b h n i l)) (fun l => w (ix1 l)) e := by
  pointwise [normOf]
  rfl

/-- The gated linear attention, at an index. -/
theorem body_at (q k g : FVec Ideal S8x4096x256 .f32) (v og : FVec Ideal S8x4096x512 .f32) (w : FVec Ideal S128 .f32) (prev : FVec Ideal S64x8x4x64x128 .f32) (b : Fin 8) (h : Fin 4) (n i : Fin 64) (e : Fin 128) :
    bodyOf q k g v og w prev (ix3 b ⟨n.val * 64 + i.val, by omega⟩ ⟨h.val * 128 + e.val, by omega⟩)
      = headNorm (glaMix (at64 q b n h) (at64 k b n h) (fun i d => runSum (fun j => at64 g b n h j d) i) (at128 v b n h) (fun d e => prev (ix5 n b h d e)) i) (fun l => w (ix1 l)) e * silu (at128 og b n h i e) := by
  pointwise [bodyOf, norm_at, mix_at]
  rfl

end Cert.Reference5Ideal.Math
-- ==== Proof.GlaScan.lean ====
/- The reference's loop over the chunks: the states it leaves. -/
module

public import proofs.«01_k».proof.Proof.GlaRef

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.Reference5Ideal.Math

open Cert.Reference5Ideal Cert.Reference5Ideal.Gen Cert.Reference5Ideal.Value Cert.Layer
open Idealize.ShloMosaic.Tactic

/-- Every chunk's keys, decayed to the chunk's end. -/
def keysOf (k g : FVec Ideal S8x4096x256 .f32) : FVec Ideal S64x8x4x64x64 .f32 :=
  transpose S64x8x4x64x64 [2, 0, 1, 3, 4] (mulf (heads64 k) (Host.exp (subf (broadcastInDim S8x4x64x64x64 ![0, 1, 2, 3, 4] bcast_S8x4x64x1x64_S8x4x64x64x64_0_1_2_3_4 (extractStridedSlice S8x4x64x1x64 ![0, 0, 0, 63, 0] (cumOf g) slices_S8x4x64x64x64_S8x4x64x1x64_0_0_0_63_0)) (cumOf g)))) transposes_S8x4x64x64x64_S64x8x4x64x64_2_0_1_3_4

/-- Every chunk's values. -/
def valuesOf (v : FVec Ideal S8x4096x512 .f32) : FVec Ideal S64x8x4x64x128 .f32 :=
  transpose S64x8x4x64x128 [2, 0, 1, 3, 4] (heads128 v) transposes_S8x4x64x64x128_S64x8x4x64x128_2_0_1_3_4

/-- Every chunk's decay over its whole length. -/
def decaysOf (g : FVec Ideal S8x4096x256 .f32) : FVec Ideal S64x8x4x64 .f32 :=
  transpose S64x8x4x64 [2, 0, 1, 3] (Host.exp (shapeCast S8x4x64x64 (extractStridedSlice S8x4x64x1x64 ![0, 0, 0, 63, 0] (cumOf g) slices_S8x4x64x64x64_S8x4x64x1x64_0_0_0_63_0) shapeCasts_S8x4x64x1x64_S8x4x64x64)) transposes_S8x4x64x64_S64x8x4x64_2_0_1_3

/-- Where a chunk starts in an array of five axes. -/
def start5 (A3 : IVec S_ 32) : Fin 5 → Int := (fun k => (((![A3, constantI S_ 32 0#32, constantI S_ 32 0#32, constantI S_ 32 0#32, constantI S_ 32 0#32] : Fin 5 → (⟨S_, .i32⟩ : BufTy).Contents (Elt Ideal))) k (Shape.Idx.first h_S_)).toInt)

/-- Where a chunk starts in an array of four axes. -/
def start4 (A3 : IVec S_ 32) : Fin 4 → Int := (fun k => (((![A3, constantI S_ 32 0#32, constantI S_ 32 0#32, constantI S_ 32 0#32] : Fin 4 → (⟨S_, .i32⟩ : BufTy).Contents (Elt Ideal))) k (Shape.Idx.first h_S_)).toInt)

/-- The state after a chunk, from the counter, the loop's arrays and the state before it. -/
def stateStep (A0 : FVec Ideal S64x8x4x64x64 .f32) (A1 : FVec Ideal S64x8x4x64x128 .f32) (A2 : FVec Ideal S64x8x4x64 .f32) (A3 : IVec S_ 32) (A4 : FVec Ideal S8x4x64x128 .f32) : FVec Ideal S8x4x64x128 .f32 :=
  (addf (mulf (broadcastInDim S8x4x64x128 ![0, 1, 2, 3] bcast_S8x4x64x1_S8x4x64x128_0_1_2_3 (broadcastInDim S8x4x64x1 ![0, 1, 2] bcast_S8x4x64_S8x4x64x1_0_1_2 (shapeCast S8x4x64 (Host.dynamicSlice S1x8x4x64 A2 (start4 A3) sliceFits_S64x8x4x64_S1x8x4x64) shapeCasts_S1x8x4x64_S8x4x64))) A4) (Host.dotGeneral dot_S8x4x64x64_S8x4x64x128_S8x4x64x128_2_2_3_3_01_01 none (shapeCast S8x4x64x64 (Host.dynamicSlice S1x8x4x64x64 A0 (start5 A3) sliceFits_S64x8x4x64x64_S1x8x4x64x64) shapeCasts_S1x8x4x64x64_S8x4x64x64) (shapeCast S8x4x64x128 (Host.dynamicSlice S1x8x4x64x128 A1 (start5 A3) sliceFits_S64x8x4x64x128_S1x8x4x64x128) shapeCasts_S1x8x4x64x128_S8x4x64x128)))

/-- The states kept so far, with the state before this chunk written at the counter. -/
def keepStep (A3 : IVec S_ 32) (A4 : FVec Ideal S8x4x64x128 .f32) (A5 : FVec Ideal S64x8x4x64x128 .f32) : FVec Ideal S64x8x4x64x128 .f32 :=
  (Host.dynamicUpdateSlice A5 (broadcastInDim S1x8x4x64x128 ![1, 2, 3, 4] bcast_S8x4x64x128_S1x8x4x64x128_1_2_3_4 A4) (start5 A3) updateFits_S64x8x4x64x128_S1x8x4x64x128)

/-- The running sums of a head's decays in a chunk. -/
abbrev sum64 (g : FVec Ideal S8x4096x256 .f32) (b : Fin 8) (n : Fin 64) (h : Fin 4) (i d : Fin 64) : EReal := runSum (fun j => at64 g b n h j d) i

/-- The chunk of a number, which is the number when it is below 64. -/
abbrev chunk (n : ℕ) : Fin 64 := ⟨n % 64, Nat.mod_lt _ (by decide)⟩

/-- A head's state before chunk `n`. -/
def stateAt (k g : FVec Ideal S8x4096x256 .f32) (v : FVec Ideal S8x4096x512 .f32) (b : Fin 8) (h : Fin 4) : ℕ → Fin 64 → Fin 128 → EReal
  | 0 => fun _ _ => 0
  | n + 1 => glaStep (at64 k b (chunk n) h) (sum64 g b (chunk n) h) (at128 v b (chunk n) h) (stateAt k g v b h n)

/-- The keys decayed to the chunk's end, at an index. -/
theorem keys_at (k g : FVec Ideal S8x4096x256 .f32) (n : Fin 64) (b : Fin 8) (h : Fin 4) (j d : Fin 64) :
    keysOf k g (ix5 n b h j d) = at64 k b n h j d * Ideal.exp (sum64 g b n h 63 d - sum64 g b n h j d) := by
  pointwise [keysOf, heads64_at, cum_at]

/-- The values, at an index. -/
theorem values_at (v : FVec Ideal S8x4096x512 .f32) (n : Fin 64) (b : Fin 8) (h : Fin 4) (j : Fin 64) (e : Fin 128) :
    valuesOf v (ix5 n b h j e) = at128 v b n h j e := by
  pointwise [valuesOf, heads128_at]

/-- The decay over a chunk, at an index. -/
theorem decays_at (g : FVec Ideal S8x4096x256 .f32) (n : Fin 64) (b : Fin 8) (h : Fin 4) (d : Fin 64) :
    decaysOf g (ix4 n b h d) = Ideal.exp (sum64 g b n h 63 d) := by
  pointwise [decaysOf, cum_at]

/-- A chunk's number as a word, read back. -/
theorem word_chunk : ∀ n : Fin 64, (BitVec.ofNat 32 n.val).toInt = (n.val : ℤ) := by decide +kernel

/-- A chunk's keys, sliced out at the counter. -/
theorem slice64_at (A : FVec Ideal S64x8x4x64x64 .f32) (n : Fin 64) (b : Fin 8) (h : Fin 4) (j d : Fin 64) :
    shapeCast S8x4x64x64 (Host.dynamicSlice S1x8x4x64x64 A (start5 (fun _ => BitVec.ofNat 32 n.val)) sliceFits_S64x8x4x64x64_S1x8x4x64x64) shapeCasts_S1x8x4x64x64_S8x4x64x64 (ix4 b h j d) = A (ix5 n b h j d) := by
  have c0 : Host.clampedStart S64x8x4x64x64 S1x8x4x64x64 rfl (start5 (fun _ => BitVec.ofNat 32 n.val)) 0 = n.val := Host.clampedStart_of_le _ _ 0 n.val (word_chunk n) n.isLt
  have c1 : Host.clampedStart S64x8x4x64x64 S1x8x4x64x64 rfl (start5 (fun _ => BitVec.ofNat 32 n.val)) 1 = 0 := Host.clampedStart_of_le _ _ 1 0 rfl (by decide)
  have c2 : Host.clampedStart S64x8x4x64x64 S1x8x4x64x64 rfl (start5 (fun _ => BitVec.ofNat 32 n.val)) 2 = 0 := Host.clampedStart_of_le _ _ 2 0 rfl (by decide)
  have c3 : Host.clampedStart S64x8x4x64x64 S1x8x4x64x64 rfl (start5 (fun _ => BitVec.ofNat 32 n.val)) 3 = 0 := Host.clampedStart_of_le _ _ 3 0 rfl (by decide)
  have c4 : Host.clampedStart S64x8x4x64x64 S1x8x4x64x64 rfl (start5 (fun _ => BitVec.ofNat 32 n.val)) 4 = 0 := Host.clampedStart_of_le _ _ 4 0 rfl (by decide)
  pointwise
  simp only [c0, c1, c2, c3, c4, Nat.zero_add, Nat.add_zero]

/-- A chunk's values, sliced out at the counter. -/
theorem slice128_at (A : FVec Ideal S64x8x4x64x128 .f32) (n : Fin 64) (b : Fin 8) (h : Fin 4) (j : Fin 64) (e : Fin 128) :
    shapeCast S8x4x64x128 (Host.dynamicSlice S1x8x4x64x128 A (start5 (fun _ => BitVec.ofNat 32 n.val)) sliceFits_S64x8x4x64x128_S1x8x4x64x128) shapeCasts_S1x8x4x64x128_S8x4x64x128 (ix4 b h j e) = A (ix5 n b h j e) := by
  have c0 : Host.clampedStart S64x8x4x64x128 S1x8x4x64x128 rfl (start5 (fun _ => BitVec.ofNat 32 n.val)) 0 = n.val := Host.clampedStart_of_le _ _ 0 n.val (word_chunk n) n.isLt
  have c1 : Host.clampedStart S64x8x4x64x128 S1x8x4x64x128 rfl (start5 (fun _ => BitVec.ofNat 32 n.val)) 1 = 0 := Host.clampedStart_of_le _ _ 1 0 rfl (by decide)
  have c2 : Host.clampedStart S64x8x4x64x128 S1x8x4x64x128 rfl (start5 (fun _ => BitVec.ofNat 32 n.val)) 2 = 0 := Host.clampedStart_of_le _ _ 2 0 rfl (by decide)
  have c3 : Host.clampedStart S64x8x4x64x128 S1x8x4x64x128 rfl (start5 (fun _ => BitVec.ofNat 32 n.val)) 3 = 0 := Host.clampedStart_of_le _ _ 3 0 rfl (by decide)
  have c4 : Host.clampedStart S64x8x4x64x128 S1x8x4x64x128 rfl (start5 (fun _ => BitVec.ofNat 32 n.val)) 4 = 0 := Host.clampedStart_of_le _ _ 4 0 rfl (by decide)
  pointwise
  simp only [c0, c1, c2, c3, c4, Nat.zero_add, Nat.add_zero]

/-- A chunk's decays, sliced out at the counter. -/
theorem sliceDecay_at (A : FVec Ideal S64x8x4x64 .f32) (n : Fin 64) (b : Fin 8) (h : Fin 4) (d : Fin 64) :
    shapeCast S8x4x64 (Host.dynamicSlice S1x8x4x64 A (start4 (fun _ => BitVec.ofNat 32 n.val)) sliceFits_S64x8x4x64_S1x8x4x64) shapeCasts_S1x8x4x64_S8x4x64 (ix3 b h d) = A (ix4 n b h d) := by
  have c0 : Host.clampedStart S64x8x4x64 S1x8x4x64 rfl (start4 (fun _ => BitVec.ofNat 32 n.val)) 0 = n.val := Host.clampedStart_of_le _ _ 0 n.val (word_chunk n) n.isLt
  have c1 : Host.clampedStart S64x8x4x64 S1x8x4x64 rfl (start4 (fun _ => BitVec.ofNat 32 n.val)) 1 = 0 := Host.clampedStart_of_le _ _ 1 0 rfl (by decide)
  have c2 : Host.clampedStart S64x8x4x64 S1x8x4x64 rfl (start4 (fun _ => BitVec.ofNat 32 n.val)) 2 = 0 := Host.clampedStart_of_le _ _ 2 0 rfl (by decide)
  have c3 : Host.clampedStart S64x8x4x64 S1x8x4x64 rfl (start4 (fun _ => BitVec.ofNat 32 n.val)) 3 = 0 := Host.clampedStart_of_le _ _ 3 0 rfl (by decide)
  pointwise
  simp only [c0, c1, c2, c3, Nat.zero_add, Nat.add_zero]

/-- The state after a chunk, at an index. -/
theorem stateStep_at (A0 : FVec Ideal S64x8x4x64x64 .f32) (A1 : FVec Ideal S64x8x4x64x128 .f32) (A2 : FVec Ideal S64x8x4x64 .f32) (A4 : FVec Ideal S8x4x64x128 .f32) (n : Fin 64) (b : Fin 8) (h : Fin 4) (d : Fin 64) (e : Fin 128) :
    stateStep A0 A1 A2 (fun _ => BitVec.ofNat 32 n.val) A4 (ix4 b h d e)
      = A2 (ix4 n b h d) * A4 (ix4 b h d e) + ∑ j : Fin 64, A0 (ix5 n b h j d) * A1 (ix5 n b h j e) := by
  have e2 := sliceDecay_at A2 n b h d
  have e0 := slice64_at A0 n b h
  have e1 := slice128_at A1 n b h
  unfold stateStep
  generalize shapeCast S8x4x64 (Host.dynamicSlice S1x8x4x64 A2 (start4 (fun _ => BitVec.ofNat 32 n.val)) sliceFits_S64x8x4x64_S1x8x4x64) shapeCasts_S1x8x4x64_S8x4x64 = B2 at e2 ⊢
  generalize shapeCast S8x4x64x64 (Host.dynamicSlice S1x8x4x64x64 A0 (start5 (fun _ => BitVec.ofNat 32 n.val)) sliceFits_S64x8x4x64x64_S1x8x4x64x64) shapeCasts_S1x8x4x64x64_S8x4x64x64 = B0 at e0 ⊢
  generalize shapeCast S8x4x64x128 (Host.dynamicSlice S1x8x4x64x128 A1 (start5 (fun _ => BitVec.ofNat 32 n.val)) sliceFits_S64x8x4x64x128_S1x8x4x64x128) shapeCasts_S1x8x4x64x128_S8x4x64x128 = B1 at e1 ⊢
  pointwise [e0, e1, e2]

/-- The states kept so far, at an index. -/
theorem keepStep_at (A4 : FVec Ideal S8x4x64x128 .f32) (A5 : FVec Ideal S64x8x4x64x128 .f32) (n n' : Fin 64) (b : Fin 8) (h : Fin 4) (d : Fin 64) (e : Fin 128) :
    keepStep (fun _ => BitVec.ofNat 32 n.val) A4 A5 (ix5 n' b h d e) = if n' = n then A4 (ix4 b h d e) else A5 (ix5 n' b h d e) := by
  have c0 : Host.clampedStart S64x8x4x64x128 S1x8x4x64x128 rfl (start5 (fun _ => BitVec.ofNat 32 n.val)) 0 = n.val := Host.clampedStart_of_le _ _ 0 n.val (word_chunk n) n.isLt
  have c1 : Host.clampedStart S64x8x4x64x128 S1x8x4x64x128 rfl (start5 (fun _ => BitVec.ofNat 32 n.val)) 1 = 0 := Host.clampedStart_of_le _ _ 1 0 rfl (by decide)
  have c2 : Host.clampedStart S64x8x4x64x128 S1x8x4x64x128 rfl (start5 (fun _ => BitVec.ofNat 32 n.val)) 2 = 0 := Host.clampedStart_of_le _ _ 2 0 rfl (by decide)
  have c3 : Host.clampedStart S64x8x4x64x128 S1x8x4x64x128 rfl (start5 (fun _ => BitVec.ofNat 32 n.val)) 3 = 0 := Host.clampedStart_of_le _ _ 3 0 rfl (by decide)
  have c4 : Host.clampedStart S64x8x4x64x128 S1x8x4x64x128 rfl (start5 (fun _ => BitVec.ofNat 32 n.val)) 4 = 0 := Host.clampedStart_of_le _ _ 4 0 rfl (by decide)
  pointwise [keepStep]
  simp only [c0, c1, c2, c3, c4, Nat.sub_zero, Nat.zero_le, and_true]
  by_cases hn : n' = n
  · rw [if_pos hn, dif_pos (by subst hn; omega)]
  · rw [if_neg hn, dif_neg (fun z => hn (Fin.ext (by omega)))]

variable (m : (ℓ : Loc nD τ sig) → Buf (Elt Ideal) ℓ)

/-- The keys the loop starts with. -/
theorem entry0 (c : Dev nD) : entryContents preI m c (Proc.devRef .tc main_v19_0) = keysOf (m ((c.tc : Thread nD τ).loc main_arg1)) (m ((c.tc : Thread nD τ).loc main_arg2)) := by
  simp only [entryContents, afterL_cons, afterL_nil]
  after_reads_simp
  rfl

/-- The values the loop starts with. -/
theorem entry1 (c : Dev nD) : entryContents preI m c (Proc.devRef .tc main_v19_1) = valuesOf (m ((c.tc : Thread nD τ).loc main_arg3)) := by
  simp only [entryContents, afterL_cons, afterL_nil]
  after_reads_simp
  rfl

/-- The decays the loop starts with. -/
theorem entry2 (c : Dev nD) : entryContents preI m c (Proc.devRef .tc main_v19_2) = decaysOf (m ((c.tc : Thread nD τ).loc main_arg2)) := by
  simp only [entryContents, afterL_cons, afterL_nil]
  after_reads_simp
  rfl

/-- The state the loop starts with is zero. -/
theorem entry4 (c : Dev nD) (y : S8x4x64x128.Idx) : entryContents preI m c (Proc.devRef .tc main_v19_4) y = (0 : EReal) := by
  have e : entryContents preI m c (Proc.devRef .tc main_v19_4) = broadcastInDim S8x4x64x128 ![] bcast_S_S8x4x64x128 (constant (F := Ideal) S_ .f32 0x00000000#32) := by
    simp only [entryContents, afterL_cons, afterL_nil]
    after_reads_simp
    rfl
  rw [e]
  show Ideal.ofBits .f32 0x00000000#32 = 0
  simp [Ideal.ofBits, Ideal.ieee]

/-- The loop's arrays do not change. -/
theorem iter_const (V : Valuation τ sig (Elt Ideal)) : ∀ k, (STEP^[k] V) (Proc.devRef .tc main_v19_0) = V (Proc.devRef .tc main_v19_0)
    ∧ (STEP^[k] V) (Proc.devRef .tc main_v19_1) = V (Proc.devRef .tc main_v19_1) ∧ (STEP^[k] V) (Proc.devRef .tc main_v19_2) = V (Proc.devRef .tc main_v19_2)
  | 0 => ⟨rfl, rfl, rfl⟩
  | k + 1 => by
    rw [Function.iterate_succ_apply', STEP_main_v19_0, STEP_main_v19_1, STEP_main_v19_2]
    exact iter_const V k

/-- The loop's counter counts. -/
theorem iter_count (c : Dev nD) : ∀ k, (STEP^[k] (entryContents preI m c)) (Proc.devRef .tc main_v19_3) = fun _ => BitVec.ofNat 32 k
  | 0 => ctr_entry m c
  | k + 1 => by
    rw [Function.iterate_succ_apply', STEP_main_v19_3]
    unfold step_main_v19_3
    rw [iter_count c k]
    funext y
    exact (BitVec.ofNat_add k 1).symm

/-- The state before chunk `k` in the loop. -/
theorem iter_state (c : Dev nD) (b : Fin 8) (h : Fin 4) : ∀ k, k ≤ 64 → ∀ (d : Fin 64) (e : Fin 128),
    ((STEP^[k] (entryContents preI m c)) (Proc.devRef .tc main_v19_4) : FVec Ideal S8x4x64x128 .f32) (ix4 b h d e)
      = stateAt (m ((c.tc : Thread nD τ).loc main_arg1)) (m ((c.tc : Thread nD τ).loc main_arg2)) (m ((c.tc : Thread nD τ).loc main_arg3)) b h k d e
  | 0, _, d, e => entry4 m c _
  | k + 1, hk, d, e => by
    rw [Function.iterate_succ_apply', STEP_main_v19_4]
    show stateStep _ _ _ _ _ _ = _
    rw [iter_count m c k, (iter_const _ k).1, (iter_const _ k).2.1, (iter_const _ k).2.2, entry0, entry1, entry2]
    refine (stateStep_at _ _ _ _ ⟨k, by omega⟩ b h d e).trans ?_
    have hc : chunk k = ⟨k, by omega⟩ := Fin.ext (Nat.mod_eq_of_lt (by omega))
    unfold stateAt glaStep
    rw [hc, iter_state c b h k (by omega) d e, decays_at]
    refine congrArg (_ + ·) (Finset.sum_congr rfl fun j _ => ?_)
    rw [keys_at, values_at]

/-- The states the loop has kept before chunk `k`. -/
theorem iter_keep (c : Dev nD) (b : Fin 8) (h : Fin 4) : ∀ k, k ≤ 64 → ∀ (n : Fin 64), n.val < k → ∀ (d : Fin 64) (e : Fin 128),
    ((STEP^[k] (entryContents preI m c)) (Proc.devRef .tc main_v19_5) : FVec Ideal S64x8x4x64x128 .f32) (ix5 n b h d e)
      = stateAt (m ((c.tc : Thread nD τ).loc main_arg1)) (m ((c.tc : Thread nD τ).loc main_arg2)) (m ((c.tc : Thread nD τ).loc main_arg3)) b h n.val d e
  | 0, _, n, hn, d, e => absurd hn (by omega)
  | k + 1, hk, n, hn, d, e => by
    rw [Function.iterate_succ_apply', STEP_main_v19_5]
    show keepStep _ _ _ _ = _
    rw [iter_count m c k]
    refine (keepStep_at _ _ ⟨k, by omega⟩ n b h d e).trans ?_
    by_cases e' : n = ⟨k, by omega⟩
    · rw [if_pos e', iter_state m c b h k (by omega) d e, e']
    · rw [if_neg e']
      exact iter_keep c b h k (by omega) n (by have : n.val ≠ k := fun z => e' (Fin.ext z); omega) d e

end Cert.Reference5Ideal.Math
-- ==== Proof.Gla.lean ====
/- The array the gated linear attention kernel returns is the reference's. -/
module

public import proofs.«01_k».proof.Defs
public import proofs.«01_k».proof.Proof.GlaRows
public import proofs.«01_k».proof.Proof.GlaScan
public import proofs.«01_k».proof.Proof.Gen.Kernel5Ideal.Value
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Reference5Ideal.Math

open Cert.Reference5Ideal Cert.Reference5Ideal.Gen Cert.Reference5Ideal.Value Cert.Layer
open Idealize.ShloMosaic.StableHlo

/-- The states before every chunk, from the argument arrays. -/
def prevOf (k g : FVec Ideal S8x4096x256 .f32) (v : FVec Ideal S8x4096x512 .f32) : FVec Ideal S64x8x4x64x128 .f32 :=
  fun y => stateAt k g v (y 1) (y 2) (y 0).val (y 3) (y 4)

/-- The gated linear attention, from the argument arrays. -/
def result (q k g : FVec Ideal S8x4096x256 .f32) (v og : FVec Ideal S8x4096x512 .f32) (w : FVec Ideal S128 .f32) : FVec Ideal S8x4096x512 .bf16 :=
  bodyOf q k g v og w (prevOf k g v)

/-- What the reference leaves is the gated linear attention of its arguments. -/
theorem ref_eq (m : (ℓ : Loc nD τ sig) → Buf (Elt Ideal) ℓ) (c : Dev nD) :
    out_main_v67 (STEP^[64] (entryContents preI m c))
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  have e : ((STEP^[64] (entryContents preI m c)) (Proc.devRef .tc main_v19_5) : FVec Ideal S64x8x4x64x128 .f32)
      = prevOf (m ((c.tc : Thread nD τ).loc main_arg1)) (m ((c.tc : Thread nD τ).loc main_arg2)) (m ((c.tc : Thread nD τ).loc main_arg3)) := by
    funext y
    rw [eq_ix5 y]
    exact iter_keep m c (y 1) (y 2) 64 le_rfl (y 0) (y 0).isLt (y 3) (y 4)
  have e' : out_main_v67 (STEP^[64] (entryContents preI m c)) = bodyOf ((STEP^[64] (entryContents preI m c)) (Proc.devRef .tc main_arg0)) ((STEP^[64] (entryContents preI m c)) (Proc.devRef .tc main_arg1)) ((STEP^[64] (entryContents preI m c)) (Proc.devRef .tc main_arg2))
      ((STEP^[64] (entryContents preI m c)) (Proc.devRef .tc main_arg3)) ((STEP^[64] (entryContents preI m c)) (Proc.devRef .tc main_arg4)) ((STEP^[64] (entryContents preI m c)) (Proc.devRef .tc main_arg5)) ((STEP^[64] (entryContents preI m c)) (Proc.devRef .tc main_v19_5)) := rfl
  rw [e', iter_main_arg0, iter_main_arg1, iter_main_arg2, iter_main_arg3, iter_main_arg4, iter_main_arg5]
  exact congrArg _ e

/-- The gated linear attention, at an index. -/
theorem result_at (q k g : FVec Ideal S8x4096x256 .f32) (v og : FVec Ideal S8x4096x512 .f32) (w : FVec Ideal S128 .f32) (b : Fin 8) (n : Fin 64) (h : Fin 4) (i : Fin 64) (e : Fin 128) :
    result q k g v og w (ix3 b ⟨n.val * 64 + i.val, by omega⟩ ⟨h.val * 128 + e.val, by omega⟩)
      = headNorm (glaMix (at64 q b n h) (at64 k b n h) (sum64 g b n h) (at128 v b n h) (stateAt k g v b h n.val) i) (fun l => w (ix1 l)) e * silu (at128 og b n h i e) :=
  body_at q k g v og w _ b h n i e

end Cert.Reference5Ideal.Math

namespace Cert.Kernel5Ideal.Math

open Cert.Kernel5Ideal Cert.Kernel5Ideal.Gen Cert.Layer

variable (m : (ℓ : Loc nD τ sig) → Buf (Elt Ideal) ℓ)

/-- Which block each window reads or writes at a grid point: the point's batch entry and its chunk. -/
theorem idx : ∀ t : Fin cfg0.N, win0_0.index t = ![t.val / 64, t.val % 64, 0] ∧ win0_1.index t = ![t.val / 64, t.val % 64, 0]
    ∧ win0_2.index t = ![t.val / 64, t.val % 64, 0] ∧ win0_3.index t = ![t.val / 64, t.val % 64, 0] ∧ win0_4.index t = ![t.val / 64, t.val % 64, 0]
    ∧ win0_5.index t = ![0, 0] ∧ win0_6.index t = ![t.val / 64, t.val % 64, 0] :=
  (by decide +kernel : ∀ t : Fin grid0.N, _)

/-- A grid point's batch entry. -/
abbrev batch (t : Fin cfg0.N) : Fin 8 := ⟨t.val / 64, by have h : (t : ℕ) < 512 := t.isLt; omega⟩

/-- A grid point's chunk. -/
abbrev chunkOf (t : Fin cfg0.N) : Fin 64 := ⟨t.val % 64, Nat.mod_lt _ (by decide)⟩

/-- The block of queries. -/
theorem blk_0 (c : Dev nD) (t : Fin cfg0.N) (r : Fin 64) (l : Fin 256) :
    (show FVec Ideal S1x64x256 .f32 from iblk m c 0 t) (ix3 0 r l)
      = (show FVec Ideal S8x4096x256 .f32 from m ((c : Thread nD τ).loc main_arg0)) (ix3 (batch t) ⟨t.val % 64 * 64 + r, by omega⟩ l) := by
  show V m c main_arg0 (((cfg0.win 0).blk t).view.emb (ix3 0 r l)) = _
  rw [V_main_arg0]
  refine congrArg _ ?_
  blk_ext [idx t]

/-- The block of keys. -/
theorem blk_1 (c : Dev nD) (t : Fin cfg0.N) (r : Fin 64) (l : Fin 256) :
    (show FVec Ideal S1x64x256 .f32 from iblk m c 1 t) (ix3 0 r l)
      = (show FVec Ideal S8x4096x256 .f32 from m ((c : Thread nD τ).loc main_arg1)) (ix3 (batch t) ⟨t.val % 64 * 64 + r, by omega⟩ l) := by
  show V m c main_arg1 (((cfg0.win 1).blk t).view.emb (ix3 0 r l)) = _
  rw [V_main_arg1]
  refine congrArg _ ?_
  blk_ext [idx t]

/-- The block of decays. -/
theorem blk_2 (c : Dev nD) (t : Fin cfg0.N) (r : Fin 64) (l : Fin 256) :
    (show FVec Ideal S1x64x256 .f32 from iblk m c 2 t) (ix3 0 r l)
      = (show FVec Ideal S8x4096x256 .f32 from m ((c : Thread nD τ).loc main_arg2)) (ix3 (batch t) ⟨t.val % 64 * 64 + r, by omega⟩ l) := by
  show V m c main_arg2 (((cfg0.win 2).blk t).view.emb (ix3 0 r l)) = _
  rw [V_main_arg2]
  refine congrArg _ ?_
  blk_ext [idx t]

/-- The block of values. -/
theorem blk_3 (c : Dev nD) (t : Fin cfg0.N) (r : Fin 64) (l : Fin 512) :
    (show FVec Ideal S1x64x512 .f32 from iblk m c 3 t) (ix3 0 r l)
      = (show FVec Ideal S8x4096x512 .f32 from m ((c : Thread nD τ).loc main_arg3)) (ix3 (batch t) ⟨t.val % 64 * 64 + r, by omega⟩ l) := by
  show V m c main_arg3 (((cfg0.win 3).blk t).view.emb (ix3 0 r l)) = _
  rw [V_main_arg3]
  refine congrArg _ ?_
  blk_ext [idx t]

/-- The block of gates. -/
theorem blk_4 (c : Dev nD) (t : Fin cfg0.N) (r : Fin 64) (l : Fin 512) :
    (show FVec Ideal S1x64x512 .f32 from iblk m c 4 t) (ix3 0 r l)
      = (show FVec Ideal S8x4096x512 .f32 from m ((c : Thread nD τ).loc main_arg4)) (ix3 (batch t) ⟨t.val % 64 * 64 + r, by omega⟩ l) := by
  show V m c main_arg4 (((cfg0.win 4).blk t).view.emb (ix3 0 r l)) = _
  rw [V_main_arg4]
  refine congrArg _ ?_
  blk_ext [idx t]

/-- The head weights as one row. -/
theorem head_row (c : Dev nD) (l : Fin 128) :
    (show FVec Ideal S1x128 .f32 from V m c main_v0) (ix2 0 l) = (show FVec Ideal S128 .f32 from m ((c : Thread nD τ).loc main_arg5)) (ix1 l) := by
  simp only [V, hostOps0, List.flatten_cons, List.flatten_nil, List.append_nil, List.cons_append, List.nil_append]
  entry_read
  show shapeCast S1x128 (show FVec Ideal S128 .f32 from m ((c : Thread nD τ).loc main_arg5)) shapeCasts_S128_S1x128 (ix2 0 l) = _
  generalize hx : (show FVec Ideal S128 .f32 from m ((c : Thread nD τ).loc main_arg5)) = x
  pointwise
  exact (congrFun hx (ix1 l)).symm

/-- The block of head weights. -/
theorem blk_5 (c : Dev nD) (t : Fin cfg0.N) (l : Fin 128) :
    (show FVec Ideal S1x128 .f32 from iblk m c 5 t) (ix2 0 l) = (show FVec Ideal S128 .f32 from m ((c : Thread nD τ).loc main_arg5)) (ix1 l) := by
  refine Eq.trans ?_ (head_row m c l)
  show V m c main_v0 (((cfg0.win 5).blk t).view.emb (ix2 0 l)) = _
  refine congrArg _ ?_
  blk_ext [idx t]

/-- Where a stored entry goes in the output. -/
theorem emb_6 (t : Fin cfg0.N) (r : Fin 64) (l : Fin 512) :
    ((cfg0.win 6).blk t).view.emb (ix3 0 r l) = (ix3 (batch t) ⟨t.val % 64 * 64 + r, by omega⟩ l : S8x4096x512.Idx) := by
  blk_ext [idx t]

/-- The stored blocks fill the output. -/
theorem covers_6 : (cfg0.win 6).Covers :=
  (cfg0.win 6).covers_of_index_surj rfl (by decide) fun β => by
    have h0 : (β 0).val < 8 := lt_of_lt_of_eq (β 0).isLt (by decide)
    have h1 : (β 1).val < 64 := lt_of_lt_of_eq (β 1).isLt (by decide)
    have h2 : (β 2).val < 1 := lt_of_lt_of_eq (β 2).isLt (by decide)
    have ht : (β 0).val * 64 + (β 1).val < cfg0.N := lt_of_lt_of_eq (by omega : _ < 512) (by decide)
    refine ⟨⟨(β 0).val * 64 + (β 1).val, ht⟩, fun a => ?_⟩
    refine (congrFun (idx ⟨(β 0).val * 64 + (β 1).val, ht⟩).2.2.2.2.2.2 a).trans ?_
    match a with
    | ⟨0, _⟩ => show ((β 0).val * 64 + (β 1).val) / 64 = (β 0).val; omega
    | ⟨1, _⟩ => show ((β 0).val * 64 + (β 1).val) % 64 = (β 1).val; omega
    | ⟨2, _⟩ => show 0 = (β 2).val; omega

/-- Where the test against infinity gives the true word, the number is below it. -/
theorem below_of_word {x : EReal} (h : BitVec.ofBool (decide (x < Ideal.ofBits .f32 0x7F800000#32)) = 1#1) : x ≠ ⊤ := by
  have htop : Ideal.ofBits .f32 0x7F800000#32 = ⊤ := by simp [Ideal.ofBits, Ideal.ieee]
  rw [htop] at h
  intro e
  rw [e, decide_eq_false (lt_irrefl _)] at h
  exact absurd h (by decide)

/-- Under the precondition no decay is plus infinity. -/
theorem below_args {hf : Cert.Pre_decays_below_inf.Facts} (hpre : Pre_Kernel5Ideal_decays_below_inf (hPre_decays_below_inf := hf) m) (c : Dev nD)
    (i : S8x4096x256.Idx) : (show FVec Ideal S8x4096x256 .f32 from m ((c : Thread nD τ).loc main_arg2)) i ≠ ⊤ :=
  below_of_word (congrFun (hpre c) i)

/-- No decay of a block is plus infinity. -/
theorem below_blk {hf : Cert.Pre_decays_below_inf.Facts} (hpre : Pre_Kernel5Ideal_decays_below_inf (hPre_decays_below_inf := hf) m) (c : Dev nD) (t : Fin cfg0.N)
    (y : S1x64x256.Idx) : (show FVec Ideal S1x64x256 .f32 from iblk m c 2 t) y ≠ ⊤ := by
  have hy : y = (ix3 0 (y 1) (y 2) : S1x64x256.Idx) := (eq_ix3 y).trans (congrArg (fun a : Fin 1 => (ix3 a (y 1) (y 2) : S1x64x256.Idx)) (Subsingleton.elim (α := Fin 1) (y 0) 0))
  rw [hy]
  exact fun z => below_args m hpre c _ ((blk_2 m c t (y 1) (y 2)).symm.trans z)

/-- One head's queries, keys, running sums and values at a grid point are those of its chunk. -/
theorem heads_blk (c : Dev nD) (t : Fin cfg0.N) (h : Fin 4) :
    rows64 (iblk m c 0 t) h = Reference5Ideal.Math.at64 (m ((c : Thread nD τ).loc main_arg0)) (batch t) (chunkOf t) h
    ∧ rows64 (iblk m c 1 t) h = Reference5Ideal.Math.at64 (m ((c : Thread nD τ).loc main_arg1)) (batch t) (chunkOf t) h
    ∧ sums (iblk m c 2 t) h = Reference5Ideal.Math.sum64 (m ((c : Thread nD τ).loc main_arg2)) (batch t) (chunkOf t) h
    ∧ rows128 (iblk m c 3 t) h = Reference5Ideal.Math.at128 (m ((c : Thread nD τ).loc main_arg3)) (batch t) (chunkOf t) h
    ∧ rows128 (iblk m c 4 t) h = Reference5Ideal.Math.at128 (m ((c : Thread nD τ).loc main_arg4)) (batch t) (chunkOf t) h :=
  ⟨funext fun j => funext fun d => blk_0 m c t j _, funext fun j => funext fun d => blk_1 m c t j _,
   funext fun j => funext fun d => congrArg (fun f => runSum f j) (funext fun i => blk_2 m c t i _),
   funext fun j => funext fun d => blk_3 m c t j _, funext fun j => funext fun d => blk_4 m c t j _⟩

/-- A batch entry's states, from the argument arrays. -/
abbrev states (c : Dev nD) (b : Fin 8) (n : ℕ) : Fin 4 → Fin 64 → Fin 128 → EReal := fun h =>
  Reference5Ideal.Math.stateAt (m ((c : Thread nD τ).loc main_arg1)) (m ((c : Thread nD τ).loc main_arg2)) (m ((c : Thread nD τ).loc main_arg3)) b h n

/-- A point's step takes the state before its chunk to the state after it. -/
theorem step_blk {hf : Cert.Pre_decays_below_inf.Facts} (hpre : Pre_Kernel5Ideal_decays_below_inf (hPre_decays_below_inf := hf) m) (c : Dev nD) (t : Fin cfg0.N)
    (S : Vec Ideal S256x512 .f32) (hS : Holds S (states m c (batch t) (t.val % 64))) :
    Holds (stepBlock (iblk m c 1 t) (iblk m c 2 t) (iblk m c 3 t) S) (states m c (batch t) (t.val % 64 + 1)) := by
  have e := stepBlock_holds (iblk m c 1 t) (iblk m c 2 t) (iblk m c 3 t) S (states m c (batch t) (t.val % 64)) hS (below_blk m hpre c t)
  have e' : (fun h => glaStep (rows64 (iblk m c 1 t) h) (sums (iblk m c 2 t) h) (rows128 (iblk m c 3 t) h) (states m c (batch t) (t.val % 64) h)) = states m c (batch t) (t.val % 64 + 1) := by
    funext h
    obtain ⟨-, e1, e2, e3, -⟩ := heads_blk m c t h
    rw [e1, e2, e3]
    have hc : Reference5Ideal.Math.chunk (t.val % 64) = chunkOf t := Fin.ext (Nat.mod_mod _ _)
    rw [← hc]
    rfl
  rw [← e']
  exact e

/-- After a point the scratch holds the state after its chunk. -/
theorem holds_after {hf : Cert.Pre_decays_below_inf.Facts} (hpre : Pre_Kernel5Ideal_decays_below_inf (hPre_decays_below_inf := hf) m) (c : Dev nD) :
    ∀ (n : ℕ) (hn : n < cfg0.N), Holds (outsAt0 m c n hn).2 (states m c (batch ⟨n, hn⟩) (n % 64 + 1))
  | n, hn => by
    by_cases h0 : n % 64 = 0
    · rw [outs_first m c ⟨n, hn⟩ h0]
      refine step_blk m hpre c ⟨n, hn⟩ _ ?_
      show Holds _ (states m c _ (n % 64))
      rw [h0]
      exact zero_holds
    · rw [outs_later m c ⟨n, hn⟩ h0]
      refine step_blk m hpre c ⟨n, hn⟩ _ ?_
      have ih := holds_after hpre c (n - 1) (Nat.lt_of_le_of_lt (Nat.sub_le _ _) hn)
      have e1 : (n - 1) % 64 + 1 = n % 64 := by omega
      have e2 : batch ⟨n - 1, Nat.lt_of_le_of_lt (Nat.sub_le _ _) hn⟩ = batch ⟨n, hn⟩ := Fin.ext (by show (n - 1) / 64 = n / 64; omega)
      rw [e1, e2] at ih
      exact ih
  termination_by n => n
  decreasing_by omega

/-- A block stored from the state before its chunk holds the reference's rows. -/
theorem row_of {hf : Cert.Pre_decays_below_inf.Facts} (hpre : Pre_Kernel5Ideal_decays_below_inf (hPre_decays_below_inf := hf) m) (c : Dev nD) (t : Fin cfg0.N)
    (S : Vec Ideal S256x512 .f32) (hS : Holds S (states m c (batch t) (t.val % 64))) (i : Fin 64) (h : Fin 4) (e : Fin 128) :
    outBlock (iblk m c 0 t) (iblk m c 1 t) (iblk m c 2 t) (iblk m c 3 t) (iblk m c 4 t) (iblk m c 5 t) S (ix3 0 i (lane128 h e))
      = Reference5Ideal.Math.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (ix3 (batch t) ⟨t.val % 64 * 64 + i, by omega⟩ (lane128 h e)) := by
  refine (outBlock_at _ _ _ _ _ _ _ (states m c (batch t) (t.val % 64)) hS (below_blk m hpre c t) i h e).trans ?_
  refine Eq.trans ?_ (Reference5Ideal.Math.result_at _ _ _ _ _ _ (batch t) (chunkOf t) h i e).symm
  obtain ⟨e0, e1, e2, e3, e4⟩ := heads_blk m c t h
  rw [e0, e1, e2, e3, e4, show (fun l => (show FVec Ideal S1x128 .f32 from iblk m c 5 t) (ix2 0 l)) = _ from funext fun l => blk_5 m c t l]

/-- A point's stored row, from the argument arrays. -/
theorem row_blk {hf : Cert.Pre_decays_below_inf.Facts} (hpre : Pre_Kernel5Ideal_decays_below_inf (hPre_decays_below_inf := hf) m) (c : Dev nD) (t : Fin cfg0.N) (i : Fin 64) (l : Fin 512) :
    (outsAt0 m c t.val t.isLt).1 (ix3 0 i l)
      = Reference5Ideal.Math.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (ix3 (batch t) ⟨t.val % 64 * 64 + i, by omega⟩ l) := by
  have hl : l = lane128 ⟨l.val / 128, by omega⟩ ⟨l.val % 128, Nat.mod_lt _ (by decide)⟩ := Fin.ext (by show l.val = l.val / 128 * 128 + l.val % 128; omega)
  rw [hl]
  by_cases h0 : t.val % 64 = 0
  · rw [outs_first m c t h0]
    refine row_of m hpre c t _ ?_ i _ _
    rw [h0]
    exact zero_holds
  · rw [outs_later m c t h0]
    refine row_of m hpre c t _ ?_ i _ _
    have ih := holds_after m hpre c (t.val - 1) (Nat.lt_of_le_of_lt (Nat.sub_le _ _) t.isLt)
    have e1 : (t.val - 1) % 64 + 1 = t.val % 64 := by omega
    have e2 : batch ⟨t.val - 1, Nat.lt_of_le_of_lt (Nat.sub_le _ _) t.isLt⟩ = batch t := Fin.ext (by show (t.val - 1) / 64 = t.val / 64; omega)
    rw [e1, e2] at ih
    exact ih

/-- After the whole grid the output holds the reference's gated linear attention. -/
theorem final {hf : Cert.Pre_decays_below_inf.Facts} (hpre : Pre_Kernel5Ideal_decays_below_inf (hPre_decays_below_inf := hf) m) (c : Dev nD) :
    (dats m 0 c).arrAt 6 (cfgs 0).N
      = Reference5Ideal.Math.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ covers_6 fun t _ y => ?_
  blk_simp
  rw [after0_6]
  have hy : y = (ix3 0 (y 1) (y 2) : S1x64x512.Idx) := (eq_ix3 y).trans (congrArg (fun a : Fin 1 => (ix3 a (y 1) (y 2) : S1x64x512.Idx)) (Subsingleton.elim (α := Fin 1) (y 0) 0))
  rw [hy]
  exact (row_blk m hpre c t (y 1) (y 2)).trans (congrArg _ (emb_6 t (y 1) (y 2)).symm)

end Cert.Kernel5Ideal.Math
-- ==== Proof.PleInner.lean ====
/- The per-token embedding without the last normalisation, the form of the call that every layer but the last uses: the
   kernel's stored block and the reference's array by the row formula of `PleMath`, and their equality. -/
module

public import proofs.«01_k».proof.Proof.PleMath
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference6Ideal.Math

open Cert.Reference6Ideal Cert.Reference6Ideal.Gen Cert.Layer

/-- The reference's result: the stream with the gated embedding added. -/
def result (a0 : FVec Ideal S32768x1024 .f32) (a1 : FVec Ideal S8x4096x256 .f32) (a2 : FVec Ideal S1024 .f32)
    (a3 : FVec Ideal S1024x1024 .f32) (a4 : FVec Ideal S256x1024 .f32) : FVec Ideal S32768x1024 .f32 :=
  shapeCast _ (addf (shapeCast _ a0 shapeCasts_S32768x1024_S8x4096x1024) (mulf (Host.dotGeneral dot_S8x4096x256_S256x1024_S8x4096x1024_2_0_01_1_n_n none a1 a4) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (Host.dotGeneral dot_S8x4096x1024_S1024x1024_S8x4096x1024_2_0_01_1_n_n none (mulf (mulf (shapeCast _ a0 shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ a0 shapeCasts_S32768x1024_S8x4096x1024) (shapeCast _ a0 shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a2))) a3))))))) shapeCasts_S8x4096x1024_S32768x1024

/-- Row `r` of the reference's result is the row formula of row `r`. -/
theorem result_at (a0 : FVec Ideal S32768x1024 .f32) (a1 : FVec Ideal S8x4096x256 .f32) (a2 : FVec Ideal S1024 .f32)
    (a3 : FVec Ideal S1024x1024 .f32) (a4 : FVec Ideal S256x1024 .f32) (r : Fin 32768) (l : Fin 1024) :
    result a0 a1 a2 a3 a4 (ix2 r l)
      = pleRow (fun k => a0 (ix2 r k)) (fun k => a1 (ix3 ⟨r / 4096, by omega⟩ ⟨r % 4096, by omega⟩ k)) (fun k => a2 (ix1 k))
          (fun k l => a3 (ix2 k l)) (fun k l => a4 (ix2 k l)) l := by
  pointwise [result, rmsRow, pleRow]

end Cert.Reference6Ideal.Math

namespace Cert.Kernel6Ideal.Math

open Cert.Kernel6Ideal Cert.Kernel6Ideal.Gen Cert.Layer

/-- The kernel's stored block, at an index: the row formula. -/
theorem pay1_at (h : FVec Ideal S512x1024 .f32) (g : FVec Ideal S1x1024 .f32) (wg : FVec Ideal S1024x1024 .bf16)
    (p : FVec Ideal S512x256 .f32) (wp : FVec Ideal S256x1024 .bf16) (r : Fin 512) (l : Fin 1024) :
    k0_pay1 (F := Ideal) h g wg p wp (ix2 r l)
      = pleRow (fun k => h (ix2 r k)) (fun k => p (ix2 r k)) (fun k => g (ix2 0 k)) (fun k l => wg (ix2 k l)) (fun k l => wp (ix2 k l)) l := by
  pointwise [k0_pay1, pleRow, rmsRow]
  rw [zero_sub]

variable (m : (ℓ : Loc nD τ sig) → Buf (Elt Ideal) ℓ)

/-- Which block each window reads or writes at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- A grid point's rows are rows of the array. -/
theorem row_lt (t : Fin cfg0.N) (r : Fin 512) : (t : ℕ) * 512 + r < 32768 := by
  have h : (t : ℕ) < 64 := t.isLt
  omega

/-- The block of the residual stream. -/
theorem blk_h (c : Dev nD) (t : Fin cfg0.N) (r : Fin 512) (k : Fin 1024) :
    (show FVec Ideal S512x1024 .f32 from iblk m c 0 t) (ix2 r k)
      = (show FVec Ideal S32768x1024 .f32 from m ((c : Thread nD τ).loc main_arg0)) (ix2 ⟨t * 512 + r, row_lt t r⟩ k) := by
  blk_point [iblk, V, idx t]

/-- The block of the per-token embeddings. -/
theorem blk_p (c : Dev nD) (t : Fin cfg0.N) (r : Fin 512) (k : Fin 256) :
    (show FVec Ideal S512x256 .f32 from iblk m c 1 t) (ix2 r k)
      = (show FVec Ideal S8x4096x256 .f32 from m ((c : Thread nD τ).loc main_arg1))
          (ix3 ⟨(t * 512 + r) / 4096, by have := row_lt t r; omega⟩ ⟨(t * 512 + r) % 4096, by omega⟩ k) := by
  blk_point [iblk, idx t]

/-- The block of the normalisation's weights. -/
theorem blk_g (c : Dev nD) (t : Fin cfg0.N) (k : Fin 1024) :
    (show FVec Ideal S1x1024 .f32 from iblk m c 2 t) (ix2 0 k)
      = (show FVec Ideal S1024 .f32 from m ((c : Thread nD τ).loc main_arg2)) (ix1 k) := by
  blk_point [iblk, idx t]

/-- The block of the gate's weights. -/
theorem blk_wg (c : Dev nD) (t : Fin cfg0.N) (k l : Fin 1024) :
    (show FVec Ideal S1024x1024 .bf16 from iblk m c 3 t) (ix2 k l)
      = (show FVec Ideal S1024x1024 .f32 from m ((c : Thread nD τ).loc main_arg3)) (ix2 k l) := by
  blk_point [iblk, idx t]

/-- The block of the embedding's weights. -/
theorem blk_wp (c : Dev nD) (t : Fin cfg0.N) (k : Fin 256) (l : Fin 1024) :
    (show FVec Ideal S256x1024 .bf16 from iblk m c 4 t) (ix2 k l)
      = (show FVec Ideal S256x1024 .f32 from m ((c : Thread nD τ).loc main_arg4)) (ix2 k l) := by
  blk_point [iblk, idx t]

/-- Where element `(r, l)` of the block written at point `t` lies in the array. -/
theorem emb_out (t : Fin cfg0.N) (r : Fin 512) (l : Fin 1024) :
    (((cfg0.win 6).blk t).view.emb (ix2 r l : S512x1024.Idx) : S32768x1024.Idx) = ix2 ⟨t * 512 + r, row_lt t r⟩ l := by
  blk_ext [idx t]

/-- What the kernel stores at a point is the reference's result on the rows the point writes. -/
theorem point (c : Dev nD) (t : Fin cfg0.N) (r : Fin 512) (l : Fin 1024) :
    k0_pay1 (F := Ideal) (iblk m c 0 t) (iblk m c 2 t) (iblk m c 3 t) (iblk m c 1 t) (iblk m c 4 t) (ix2 r l)
      = Reference6Ideal.Math.result (m ((c : Thread nD τ).loc main_arg0)) (m ((c : Thread nD τ).loc main_arg1))
        (m ((c : Thread nD τ).loc main_arg2)) (m ((c : Thread nD τ).loc main_arg3)) (m ((c : Thread nD τ).loc main_arg4))
        (ix2 ⟨t * 512 + r, row_lt t r⟩ l) := by
  refine (pay1_at (iblk m c 0 t) (iblk m c 2 t) (iblk m c 3 t) (iblk m c 1 t) (iblk m c 4 t) r l).trans
    (Eq.trans ?_ (Reference6Ideal.Math.result_at _ _ _ _ _ ⟨t * 512 + r, row_lt t r⟩ l).symm)
  have e0 := funext fun k => blk_h m c t r k
  have e1 := funext fun k => blk_p m c t r k
  have e2 := funext fun k => blk_g m c t k
  have e3 := funext fun k => funext fun l => blk_wg m c t k l
  have e4 := funext fun k => funext fun l => blk_wp m c t k l
  exact congrFun (congr (congr (congr (congrArg₂ pleRow e0 e1) e2) e3) e4) l

/-- After the whole grid the output array holds the reference's result. -/
theorem final (c : Dev nD) : (dats m 0 c).arrAt 6 (cfgs 0).N
    = Reference6Ideal.Math.result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  have hy : y = (ix2 (y 0) (y 1) : S512x1024.Idx) := eq_ix2 y
  rw [hy]
  exact (point m c t (y 0) (y 1)).trans (congrArg _ (emb_out t (y 0) (y 1)).symm)

end Cert.Kernel6Ideal.Math
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Band
public import proofs.«01_k».proof.Proof.In
public import proofs.«01_k».proof.Proof.Mix
public import proofs.«01_k».proof.Proof.Ple
public import proofs.«01_k».proof.Proof.Gla
public import proofs.«01_k».proof.Proof.PleInner
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The shapes the precondition of the banded attention names agree. -/
theorem finite_facts : Cert.Pre_finite_scores.Facts where
  bitsLt_bf16_f32 := by decide
  bcast_S_S8x4096x512 := by decide
  bcast_S_S8x257 := by decide

/-- The shapes the precondition of the gated linear attention names agree. -/
theorem below_facts : Cert.Pre_decays_below_inf.Facts where
  bcast_S_S8x4096x256 := by decide

/-- The banded attention: over the reals the kernel's results are the reference's, entry by entry. -/
theorem algebraic : Cert.algebraic_KernelIdeal_ReferenceIdeal_pre_finite_scores (hPre_finite_scores := finite_facts) := by
  pair_intro
  · run_from Cert.KernelIdeal.Gen.run_main m g
    all_goals first
      | exact Cert.KernelIdeal.Gen.V_main_arg1 m c
      | exact Cert.KernelIdeal.Gen.V_main_arg2 m c
      | exact Cert.KernelIdeal.Gen.V_main_arg3 m c
  · run_from Cert.ReferenceIdeal.Value.run m' g'
    · unfold Cert.ReferenceIdeal.Value.res_main_v98
      simp only [hagree c]
      exact (Cert.KernelIdeal.Math.final4 m hpre c).symm

/-- The reference of the banded attention runs, leaves its arguments as they were and has no counters. -/
theorem still : Cert.quiescent_ReferenceIdeal := fun m ρ _ =>
  θ_run_mono (Cert.ReferenceIdeal.Value.run m ρ) fun r h =>
    ⟨fun c => (h c).2, sem_eq_zero_of_no_sems rfl _⟩

set_option maxHeartbeats 4000000 in
/-- The input projections: over the reals the kernel's results are the reference's, entry by entry. -/
theorem algebraic2 : Cert.algebraic_Kernel2Ideal_Reference2Ideal := by
  pair_intro
  · run_from Cert.Kernel2Ideal.Gen.run_main m g
    all_goals first
      | exact Cert.Kernel2Ideal.Gen.V_main_arg1 m c
      | exact Cert.Kernel2Ideal.Gen.V_main_arg2 m c
      | exact Cert.Kernel2Ideal.Gen.V_main_arg3 m c
      | exact Cert.Kernel2Ideal.Gen.V_main_arg4 m c
  · run_from Cert.Reference2Ideal.Value.run m' g'
    · exact (Cert.Kernel2Ideal.Math.final7 m c).symm
    · exact (Cert.Kernel2Ideal.Math.final8 m c).symm
    · unfold Cert.Reference2Ideal.Value.res_main_v28
      simp only [hagree c]
      exact (Cert.Kernel2Ideal.Math.final9 m c).symm
    · exact (Cert.Kernel2Ideal.Math.final10 m c).symm
    · exact (Cert.Kernel2Ideal.Math.final11 m c).symm
    · exact (Cert.Kernel2Ideal.Math.final12 m c).symm
    · exact (Cert.Kernel2Ideal.Math.final13 m c).symm
    · exact (Cert.Kernel2Ideal.Math.final14 m c).symm

/-- The reference of the input projections runs, leaves its arguments as they were and has no counters. -/
theorem still2 : Cert.quiescent_Reference2Ideal := fun m ρ _ =>
  θ_run_mono (Cert.Reference2Ideal.Value.run m ρ) fun r h =>
    ⟨fun c => (h c).2.2.2.2.2.2.2.2, sem_eq_zero_of_no_sems rfl _⟩

/-- The mixing projection: over the reals the kernel's results are the reference's, entry by entry. -/
theorem algebraic3 : Cert.algebraic_Kernel3Ideal_Reference3Ideal := by
  pair_intro
  · run_from Cert.Kernel3Ideal.Gen.run_main m g
  · run_from Cert.Reference3Ideal.Value.run m' g'
    · exact (Cert.Kernel3Ideal.Math.final6 m c).symm
    · exact (Cert.Kernel3Ideal.Math.final7 m c).symm
    · exact (Cert.Kernel3Ideal.Math.final8 m c).symm

/-- The reference of the mixing projection runs, leaves its arguments as they were and has no counters. -/
theorem still3 : Cert.quiescent_Reference3Ideal := fun m ρ _ =>
  θ_run_mono (Cert.Reference3Ideal.Value.run m ρ) fun r h =>
    ⟨fun c => (h c).2.2.2, sem_eq_zero_of_no_sems rfl _⟩

/-- The per-token embedding and the last normalisation: over the reals the kernel's results are the reference's, entry by entry. -/
theorem algebraic4 : Cert.algebraic_Kernel4Ideal_Reference4Ideal := by
  pair_intro
  · run_from Cert.Kernel4Ideal.Gen.run_main m g
  · run_from Cert.Reference4Ideal.Value.run m' g'
    · unfold Cert.Reference4Ideal.Value.res_main_v37
      simp only [hagree c]
      exact (Cert.Kernel4Ideal.Math.final m c).symm

/-- The reference of the per-token embedding and the last normalisation runs, leaves its arguments as they were and has no counters. -/
theorem still4 : Cert.quiescent_Reference4Ideal := fun m ρ _ =>
  θ_run_mono (Cert.Reference4Ideal.Value.run m ρ) fun r h =>
    ⟨fun c => (h c).2, sem_eq_zero_of_no_sems rfl _⟩

/-- The gated linear attention: over the reals the kernel's results are the reference's, entry by entry. -/
theorem algebraic5 : Cert.algebraic_Kernel5Ideal_Reference5Ideal_pre_decays_below_inf (hPre_decays_below_inf := below_facts) := by
  pair_intro
  · run_from Cert.Kernel5Ideal.Gen.run_main m g
  · run_from Cert.Reference5Ideal.Value.run m' g'
    · rw [Cert.Reference5Ideal.Math.ref_eq]
      simp only [hagree c]
      exact (Cert.Kernel5Ideal.Math.final m hpre c).symm

/-- The reference of the gated linear attention runs, leaves its arguments as they were and has no counters. -/
theorem still5 : Cert.quiescent_Reference5Ideal := fun m ρ _ =>
  θ_run_mono (Cert.Reference5Ideal.Value.run m ρ) fun r h =>
    ⟨fun c => (h c).2, sem_eq_zero_of_no_sems rfl _⟩

/-- The per-token embedding without the last normalisation: over the reals the kernel's results are the reference's, entry by entry. -/
theorem algebraic6 : Cert.algebraic_Kernel6Ideal_Reference6Ideal := by
  pair_intro
  · run_from Cert.Kernel6Ideal.Gen.run_main m g
  · run_from Cert.Reference6Ideal.Value.run m' g'
    · exact (Cert.Kernel6Ideal.Math.final m c).symm

/-- The reference of the per-token embedding without the last normalisation runs, leaves its arguments as they were and has no counters. -/
theorem still6 : Cert.quiescent_Reference6Ideal := fun m ρ _ =>
  θ_run_mono (Cert.Reference6Ideal.Value.run m ρ) fun r h =>
    ⟨fun c => (h c).2, sem_eq_zero_of_no_sems rfl _⟩

/-- All claims together. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts, finite_facts, below_facts,
   fun m ρ _ => Cert.Kernel.Gen.frame m ρ, fun m ρ _ => Cert.KernelIdeal.Gen.frame m ρ, fun m ρ _ => Cert.KernelIdeal.Gen.frame m ρ, still, fun m ρ _ => still m ρ trivial,
   fun m ρ _ => Cert.Kernel2.Gen.frame m ρ, fun m ρ _ => Cert.Kernel2Ideal.Gen.frame m ρ, still2,
   fun m ρ _ => Cert.Kernel3.Gen.frame m ρ, fun m ρ _ => Cert.Kernel3Ideal.Gen.frame m ρ, still3,
   fun m ρ _ => Cert.Kernel4.Gen.frame m ρ, fun m ρ _ => Cert.Kernel4Ideal.Gen.frame m ρ, still4,
   fun m ρ _ => Cert.Kernel5.Gen.frame m ρ, fun m ρ _ => Cert.Kernel5Ideal.Gen.frame m ρ, fun m ρ _ => Cert.Kernel5Ideal.Gen.frame m ρ, still5, fun m ρ _ => still5 m ρ trivial,
   fun m ρ _ => Cert.Kernel6.Gen.frame m ρ, fun m ρ _ => Cert.Kernel6Ideal.Gen.frame m ρ, still6,
   trivial, algebraic,
   trivial, algebraic2,
   trivial, algebraic3,
   trivial, algebraic4,
   trivial, algebraic5,
   trivial, algebraic6⟩

end Cert.Proof
